-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unbiased [hPre_finite_unbiased : Cert.Pre_finite_unbiased.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unbiased [hPre_finite_unbiased : Cert.Pre_finite_unbiased.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_unbiased [hKernelIdeal : Cert.KernelIdeal.Facts] [hPre_finite_unbiased : Cert.Pre_finite_unbiased.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unbiased m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_unbiased [hReferenceIdeal : Cert.ReferenceIdeal.Facts] [hPre_finite_unbiased : Cert.Pre_finite_unbiased.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unbiased m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_unbiased [hKernelIdeal : Cert.KernelIdeal.Facts] [hReferenceIdeal : Cert.ReferenceIdeal.Facts] [hPre_finite_unbiased : Cert.Pre_finite_unbiased.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unbiased m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_unbiased : Cert.Pre_finite_unbiased.Facts),
    quiescent_Kernel (hKernel := hKernel)
    ∧ quiescent_KernelIdeal (hKernelIdeal := hKernelIdeal)
    ∧ quiescent_KernelIdeal_pre_finite_unbiased (hKernelIdeal := hKernelIdeal) (hPre_finite_unbiased := hPre_finite_unbiased)
    ∧ quiescent_ReferenceIdeal (hReferenceIdeal := hReferenceIdeal)
    ∧ quiescent_ReferenceIdeal_pre_finite_unbiased (hReferenceIdeal := hReferenceIdeal) (hPre_finite_unbiased := hPre_finite_unbiased)
    ∧ preserves_Kernel_KernelIdeal
    ∧ algebraic_KernelIdeal_ReferenceIdeal_pre_finite_unbiased (hKernelIdeal := hKernelIdeal) (hReferenceIdeal := hReferenceIdeal) (hPre_finite_unbiased := hPre_finite_unbiased)
-- ==== Pre_finite_unbiased.lean ====
abbrev S128x128 : Shape := ⟨2, ![128, 128]⟩
abbrev S128x100000 : Shape := ⟨2, ![128, 100000]⟩
abbrev S100000 : Shape := ⟨1, ![100000]⟩
abbrev S128x1 : Shape := ⟨2, ![128, 1]⟩
abbrev S1 : Shape := ⟨1, ![1]⟩
abbrev S_ : Shape := ⟨0, ![]⟩
abbrev S128 : Shape := ⟨1, ![128]⟩

class Facts : Prop where
  reducesTo_S128x100000_S128_d1 : S128x100000.ReducesTo [1] S128
  h_S_ : 0 < S_.numel
  bcast_S_S128 : S_.BroadcastsInDim S128 (![] : Fin 0 → Fin S128.rank)
  bcast_S_S100000 : S_.BroadcastsInDim S100000 (![] : Fin 0 → Fin S100000.rank)
  bcast_S_S1 : S_.BroadcastsInDim S1 (![] : Fin 0 → Fin S1.rank)
  dot_S128x128_S128x100000_S128x100000_1_0_0_1_n_n_wf : DotDims.WF S128x128 S128x100000 S128x100000 [1] [0] [0] [1] [] []

variable [Facts]

def dot_S128x128_S128x100000_S128x100000_1_0_0_1_n_n : DotDims S128x128 S128x100000 S128x100000 where
  lhsContracting := [1]
  rhsContracting := [0]
  lhsNonContracting := [0]
  rhsNonContracting := [1]
  lhsBatch := []
  rhsBatch := []
  wf := dot_S128x128_S128x100000_S128x100000_1_0_0_1_n_n_wf
def fn {F : FTy → Type} [FloatOps F] (main_arg0 : FVec F S128x128 .f32) (main_arg1 : FVec F S128x100000 .f32) (main_arg2 : FVec F S100000 .f32) (main_arg3 : FVec F S128x1 .f32) (main_arg4 : FVec F S1 .f32) : IVec S128 1 × IVec S100000 1 × IVec S1 1 :=
  let main_v0 : FVec F S128x100000 .f32 := (fun l r => Host.dotGeneral dot_S128x128_S128x100000_S128x100000_1_0_0_1_n_n none l r) main_arg0 main_arg1
  let main_cst : FVec F S_ .f32 := constant S_ .f32 0xFF800000#32
  let main_v1 : FVec F S128 .f32 := (fun x v => Host.reduce FloatOps.maximumf x v reducesTo_S128x100000_S128_d1 h_S_) main_v0 main_cst
  let main_v2 : FVec F S128 .f32 := Host.absf main_v1
  let main_cst_0 : FVec F S_ .f32 := constant S_ .f32 0x7F800000#32
  let main_v3 : FVec F S128 .f32 := broadcastInDim S128 ![] bcast_S_S128 main_cst_0
  let main_v4 : IVec S128 1 := cmpf .olt main_v2 main_v3
  let main_cst_1 : FVec F S_ .f32 := constant S_ .f32 0x00000000#32
  let main_v5 : FVec F S100000 .f32 := broadcastInDim S100000 ![] bcast_S_S100000 main_cst_1
  let main_v6 : IVec S100000 1 := cmpf .oeq main_arg2 main_v5
  let main_cst_2 : FVec F S_ .f32 := constant S_ .f32 0x00000000#32
  let main_v7 : FVec F S1 .f32 := broadcastInDim S1 ![] bcast_S_S1 main_cst_2
  let main_v8 : IVec S1 1 := cmpf .oeq main_arg4 main_v7
  (main_v4, main_v6, main_v8)
-- ==== Kernel.lean ====
abbrev S128x128 : Shape := ⟨2, ![128, 128]⟩
abbrev S128x100000 : Shape := ⟨2, ![128, 100000]⟩
abbrev S100000 : Shape := ⟨1, ![100000]⟩
abbrev S128x1 : Shape := ⟨2, ![128, 1]⟩
abbrev S1 : Shape := ⟨1, ![1]⟩
abbrev S100000x128 : Shape := ⟨2, ![100000, 128]⟩
abbrev S1x128 : Shape := ⟨2, ![1, 128]⟩
abbrev S2x16384x128 : Shape := ⟨3, ![2, 16384, 128]⟩
abbrev S1696x128 : Shape := ⟨2, ![1696, 128]⟩
abbrev S2x2 : Shape := ⟨2, ![2, 2]⟩
abbrev S_ : Shape := ⟨0, ![]⟩
abbrev S128 : Shape := ⟨1, ![128]⟩
abbrev S1x1 : Shape := ⟨2, ![1, 1]⟩
abbrev S1x8192x128 : Shape := ⟨3, ![1, 8192, 128]⟩
abbrev S8192x128 : Shape := ⟨2, ![8192, 128]⟩
abbrev S16384x128 : Shape := ⟨2, ![16384, 128]⟩
abbrev S1x16384x128 : Shape := ⟨3, ![1, 16384, 128]⟩
abbrev S2x128 : Shape := ⟨2, ![2, 128]⟩
abbrev S128x2 : Shape := ⟨2, ![128, 2]⟩

abbrev nBuf : Space → Nat
  | .hbm => 15
  | .vmem => 12
  | .smem => 0
  | _ => 0

abbrev bufTy : (tb : Table) → Fin (tcTables nBuf tb) → BufTy
  | .hbm, ⟨0, _⟩ => ⟨S128x128, .f32⟩
  | .hbm, ⟨1, _⟩ => ⟨S128x100000, .f32⟩
  | .hbm, ⟨2, _⟩ => ⟨S100000, .f32⟩
  | .hbm, ⟨3, _⟩ => ⟨S128x1, .f32⟩
  | .hbm, ⟨4, _⟩ => ⟨S1, .f32⟩
  | .hbm, ⟨5, _⟩ => ⟨S100000x128, .f32⟩
  | .hbm, ⟨6, _⟩ => ⟨S128x128, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S2x128, .f32⟩
  | .hbm, ⟨12, _⟩ => ⟨S128x2, .f32⟩
  | .hbm, ⟨13, _⟩ => ⟨S128, .f32⟩
  | .hbm, ⟨14, _⟩ => ⟨S128, .f32⟩
  | .local _ .vmem, ⟨0, _⟩ => ⟨S128x128, .f32⟩
  | .local _ .vmem, ⟨1, _⟩ => ⟨S128x1, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S2x16384x128, .f32⟩
  | .local _ .vmem, ⟨7, _⟩ => ⟨S1696x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c8192_i32 : BitVec 32 := 8192#32
  c8192_i32
def k0_mult3 : BitVec 32 :=
  let c16384_i32 : BitVec 32 := 16384#32
  c16384_i32
def k0_mult4 : BitVec 32 :=
  let c24576_i32 : BitVec 32 := 24576#32
  c24576_i32
@[reducible] def k0_t1_loop : Scf.Loop 32 :=
  let c0_i32_44 : BitVec 32 := 0#32
  let c6_i32 : BitVec 32 := 6#32
  let v55 : BitVec 32 := Scalar.addi c0_i32_44 c6_i32
  let c1_i32_45 : BitVec 32 := 1#32
  ⟨c0_i32_44, v55, c1_i32_45⟩
def k0_mult5 (k0_t1 : Fin k0_t1_loop.trips) : BitVec 32 :=
  let c0_i32_44 : BitVec 32 := 0#32
  let c1_i32_45 : BitVec 32 := 1#32
  let arg15 : BitVec 32 := Scf.iv c0_i32_44 c1_i32_45 k0_t1
  let c16384_i32_91 : BitVec 32 := 16384#32
  let v121 : BitVec 32 := Scalar.muli arg15 c16384_i32_91
  let c0_i32_92 : BitVec 32 := 0#32
  let v122 : BitVec 32 := Scalar.addi v121 c0_i32_92
  v122
def k0_off1 (k0_t1 : Fin k0_t1_loop.trips) : Fin 2 → Nat :=
  let c0_i32_44 : BitVec 32 := 0#32
  let c1_i32_45 : BitVec 32 := 1#32
  let arg15 : BitVec 32 := Scf.iv c0_i32_44 c1_i32_45 k0_t1
  let c2_i32 : BitVec 32 := 2#32
  let v120 : BitVec 32 := Scalar.remsi arg15 c2_i32
  let c0_i32_93 : BitVec 32 := 0#32
  ![v120.toNat, 0]
def k0_off2 (k0_t1 : Fin k0_t1_loop.trips) : Fin 3 → Nat :=
  let c0_i32_44 : BitVec 32 := 0#32
  let c1_i32_45 : BitVec 32 := 1#32
  let arg15 : BitVec 32 := Scf.iv c0_i32_44 c1_i32_45 k0_t1
  let c2_i32 : BitVec 32 := 2#32
  let v120 : BitVec 32 := Scalar.remsi arg15 c2_i32
  let c0_i32_94 : BitVec 32 := 0#32
  let c0_i32_95 : BitVec 32 := 0#32
  ![v120.toNat, 0, 0]
def k0_off3 (k0_t1 : Fin k0_t1_loop.trips) (c0_i32_92 : BitVec 32) : Fin 2 → Nat :=
  let c0_i32_44 : BitVec 32 := 0#32
  let c1_i32_45 : BitVec 32 := 1#32
  let arg15 : BitVec 32 := Scf.iv c0_i32_44 c1_i32_45 k0_t1
  let c16384_i32_91 : BitVec 32 := 16384#32
  let v121 : BitVec 32 := Scalar.muli arg15 c16384_i32_91
  let v122 : BitVec 32 := Scalar.addi v121 c0_i32_92
  let v123 : BitVec 32 := v122
  let c0_i32_96 : BitVec 32 := 0#32
  ![v123.toNat, 0]
def k0_mult6 (k0_t1 : Fin k0_t1_loop.trips) : BitVec 32 :=
  let c0_i32_44 : BitVec 32 := 0#32
  let c1_i32_45 : BitVec 32 := 1#32
  let arg15 : BitVec 32 := Scf.iv c0_i32_44 c1_i32_45 k0_t1
  let c16384_i32_97 : BitVec 32 := 16384#32
  let v129 : BitVec 32 := Scalar.muli arg15 c16384_i32_97
  let c8192_i32_98 : BitVec 32 := 8192#32
  let v130 : BitVec 32 := Scalar.addi v129 c8192_i32_98
  v130
def k0_off4 (k0_t1 : Fin k0_t1_loop.trips) : Fin 2 → Nat :=
  let c0_i32_44 : BitVec 32 := 0#32
  let c1_i32_45 : BitVec 32 := 1#32
  let arg15 : BitVec 32 := Scf.iv c0_i32_44 c1_i32_45 k0_t1
  let c2_i32 : BitVec 32 := 2#32
  let v120 : BitVec 32 := Scalar.remsi arg15 c2_i32
  let c1_i32_99 : BitVec 32 := 1#32
  ![v120.toNat, 1]
def k0_off5 (k0_t1 : Fin k0_t1_loop.trips) : Fin 3 → Nat :=
  let c0_i32_44 : BitVec 32 := 0#32
  let c1_i32_45 : BitVec 32 := 1#32
  let arg15 : BitVec 32 := Scf.iv c0_i32_44 c1_i32_45 k0_t1
  let c2_i32 : BitVec 32 := 2#32
  let v120 : BitVec 32 := Scalar.remsi arg15 c2_i32
  let c8192_i32_100 : BitVec 32 := 8192#32
  let c0_i32_101 : BitVec 32 := 0#32
  ![v120.toNat, 8192, 0]
def k0_off6 (k0_t1 : Fin k0_t1_loop.trips) : Fin 3 → Nat :=
  let c0_i32_44 : BitVec 32 := 0#32
  let c1_i32_45 : BitVec 32 := 1#32
  let arg15 : BitVec 32 := Scf.iv c0_i32_44 c1_i32_45 k0_t1
  let c2_i32 : BitVec 32 := 2#32
  let v120 : BitVec 32 := Scalar.remsi arg15 c2_i32
  let v137 : Index := Scalar.indexCast v120
  let c0_103 : Index := 0#32
  let c0_104 : Index := 0#32
  ![v137.toNat, 0, 0]
def k0_cond1 (k0_t1 : Fin k0_t1_loop.trips) : BitVec 1 :=
  let c0_i32_44 : BitVec 32 := 0#32
  let c1_i32_45 : BitVec 32 := 1#32
  let arg15 : BitVec 32 := Scf.iv c0_i32_44 c1_i32_45 k0_t1
  let c2_i32_128 : BitVec 32 := 2#32
  let v187 : BitVec 32 := Scalar.addi arg15 c2_i32_128
  let c6_i32_129 : BitVec 32 := 6#32
  let v188 : BitVec 1 := Scalar.cmpi .slt v187 c6_i32_129
  let v189 : BitVec 32 := Scalar.extui v188
  let c0_i32_130 : BitVec 32 := 0#32
  let v190 : BitVec 1 := Scalar.cmpi .ne v189 c0_i32_130
  v190

def k0_mult7 (k0_t1 : Fin k0_t1_loop.trips) : BitVec 32 :=
  let c0_i32_44 : BitVec 32 := 0#32
  let c1_i32_45 : BitVec 32 := 1#32
  let arg15 : BitVec 32 := Scf.iv c0_i32_44 c1_i32_45 k0_t1
  let c2_i32_131 : BitVec 32 := 2#32
  let v191 : BitVec 32 := Scalar.addi arg15 c2_i32_131
  let c16384_i32_132 : BitVec 32 := 16384#32
  let v192 : BitVec 32 := Scalar.muli v191 c16384_i32_132
  let c0_i32_133 : BitVec 32 := 0#32
  let v193 : BitVec 32 := Scalar.addi v192 c0_i32_133
  v193
def k0_off7 (k0_t1 : Fin k0_t1_loop.trips) : Fin 2 → Nat :=
  let c0_i32_44 : BitVec 32 := 0#32
  let c1_i32_45 : BitVec 32 := 1#32
  let arg15 : BitVec 32 := Scf.iv c0_i32_44 c1_i32_45 k0_t1
  let c2_i32 : BitVec 32 := 2#32
  let v120 : BitVec 32 := Scalar.remsi arg15 c2_i32
  let c0_i32_134 : BitVec 32 := 0#32
  ![v120.toNat, 0]
def k0_off8 (k0_t1 : Fin k0_t1_loop.trips) : Fin 3 → Nat :=
  let c0_i32_44 : BitVec 32 := 0#32
  let c1_i32_45 : BitVec 32 := 1#32
  let arg15 : BitVec 32 := Scf.iv c0_i32_44 c1_i32_45 k0_t1
  let c2_i32 : BitVec 32 := 2#32
  let v120 : BitVec 32 := Scalar.remsi arg15 c2_i32
  let c0_i32_135 : BitVec 32 := 0#32
  let c0_i32_136 : BitVec 32 := 0#32
  ![v120.toNat, 0, 0]
def k0_off9 (k0_t1 : Fin k0_t1_loop.trips) (c0_i32_133 : BitVec 32) : Fin 2 → Nat :=
  let c0_i32_44 : BitVec 32 := 0#32
  let c1_i32_45 : BitVec 32 := 1#32
  let arg15 : BitVec 32 := Scf.iv c0_i32_44 c1_i32_45 k0_t1
  let c2_i32_131 : BitVec 32 := 2#32
  let v191 : BitVec 32 := Scalar.addi arg15 c2_i32_131
  let c16384_i32_132 : BitVec 32 := 16384#32
  let v192 : BitVec 32 := Scalar.muli v191 c16384_i32_132
  let v193 : BitVec 32 := Scalar.addi v192 c0_i32_133
  let v194 : BitVec 32 := v193
  let c0_i32_137 : BitVec 32 := 0#32
  ![v194.toNat, 0]
def k0_mult8 (k0_t1 : Fin k0_t1_loop.trips) : BitVec 32 :=
  let c0_i32_44 : BitVec 32 := 0#32
  let c1_i32_45 : BitVec 32 := 1#32
  let arg15 : BitVec 32 := Scf.iv c0_i32_44 c1_i32_45 k0_t1
  let c2_i32_138 : BitVec 32 := 2#32
  let v200 : BitVec 32 := Scalar.addi arg15 c2_i32_138
  let c16384_i32_139 : BitVec 32 := 16384#32
  let v201 : BitVec 32 := Scalar.muli v200 c16384_i32_139
  let c8192_i32_140 : BitVec 32 := 8192#32
  let v202 : BitVec 32 := Scalar.addi v201 c8192_i32_140
  v202
def k0_off10 (k0_t1 : Fin k0_t1_loop.trips) : Fin 2 → Nat :=
  let c0_i32_44 : BitVec 32 := 0#32
  let c1_i32_45 : BitVec 32 := 1#32
  let arg15 : BitVec 32 := Scf.iv c0_i32_44 c1_i32_45 k0_t1
  let c2_i32 : BitVec 32 := 2#32
  let v120 : BitVec 32 := Scalar.remsi arg15 c2_i32
  let c1_i32_141 : BitVec 32 := 1#32
  ![v120.toNat, 1]
def k0_off11 (k0_t1 : Fin k0_t1_loop.trips) : Fin 3 → Nat :=
  let c0_i32_44 : BitVec 32 := 0#32
  let c1_i32_45 : BitVec 32 := 1#32
  let arg15 : BitVec 32 := Scf.iv c0_i32_44 c1_i32_45 k0_t1
  let c2_i32 : BitVec 32 := 2#32
  let v120 : BitVec 32 := Scalar.remsi arg15 c2_i32
  let c8192_i32_142 : BitVec 32 := 8192#32
  let c0_i32_143 : BitVec 32 := 0#32
  ![v120.toNat, 8192, 0]
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S128x128 : Shape := ⟨2, ![128, 128]⟩
abbrev S128x100000 : Shape := ⟨2, ![128, 100000]⟩
abbrev S100000 : Shape := ⟨1, ![100000]⟩
abbrev S128x1 : Shape := ⟨2, ![128, 1]⟩
abbrev S1 : Shape := ⟨1, ![1]⟩
abbrev S1x100000 : Shape := ⟨2, ![1, 100000]⟩
abbrev S1x1 : Shape := ⟨2, ![1, 1]⟩
abbrev S_ : Shape := ⟨0, ![]⟩
abbrev S128 : Shape := ⟨1, ![128]⟩
abbrev S128x1x1 : Shape := ⟨3, ![128, 1, 1]⟩
abbrev S1x1x1 : Shape := ⟨3, ![1, 1, 1]⟩
abbrev S128x2 : Shape := ⟨2, ![128, 2]⟩

abbrev nBuf : Space → Nat
  | .hbm => 67
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x100000, .f32⟩
  | .hbm, ⟨2, _⟩ => ⟨S100000, .f32⟩
  | .hbm, ⟨3, _⟩ => ⟨S128x1, .f32⟩
  | .hbm, ⟨4, _⟩ => ⟨S1, .f32⟩
  | .hbm, ⟨5, _⟩ => ⟨S128x100000, .f32⟩
  | .hbm, ⟨6, _⟩ => ⟨S1x100000, .f32⟩
  | .hbm, ⟨7, _⟩ => ⟨S128x100000, .f32⟩
  | .hbm, ⟨8, _⟩ => ⟨S128x100000, .f32⟩
  | .hbm, ⟨9, _⟩ => ⟨S128x1, .f32⟩
  | .hbm, ⟨10, _⟩ => ⟨S1x1, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S128x1, .f32⟩
  | .hbm, ⟨19, _⟩ => ⟨S128x100000, .f32⟩
  | .hbm, ⟨20, _⟩ => ⟨S128x100000, .f32⟩
  | .hbm, ⟨21, _⟩ => ⟨S128x100000, .f32⟩
  | .hbm, ⟨22, _⟩ => ⟨S_, .f32⟩
  | .hbm, ⟨23, _⟩ => ⟨S128, .f32⟩
  | .hbm, ⟨24, _⟩ => ⟨S128x1, .f32⟩
  | .hbm, ⟨25, _⟩ => ⟨S128x1, .f32⟩
  | .hbm, ⟨26, _⟩ => ⟨S128x100000, .f32⟩
  | .hbm, ⟨27, _⟩ => ⟨S128x100000, .f32⟩
  | .hbm, ⟨28, _⟩ => ⟨S128x100000, .f32⟩
  | .hbm, ⟨29, _⟩ => ⟨S128x100000, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128x100000, .i32⟩
  | .hbm, ⟨34, _⟩ => ⟨S_, .f32⟩
  | .hbm, ⟨35, _⟩ => ⟨S_, .i32⟩
  | .hbm, ⟨36, _⟩ => ⟨S128, .f32⟩
  | .hbm, ⟨37, _⟩ => ⟨S128, .i32⟩
  | .hbm, ⟨38, _⟩ => ⟨S128x1, .i32⟩
  | .hbm, ⟨39, _⟩ => ⟨S_, .i32⟩
  | .hbm, ⟨40, _⟩ => ⟨S128x1, .i32⟩
  | .hbm, ⟨41, _⟩ => ⟨S128x1, .i1⟩
  | .hbm, ⟨42, _⟩ => ⟨S_, .i32⟩
  | .hbm, ⟨43, _⟩ => ⟨S128x1, .i32⟩
  | .hbm, ⟨44, _⟩ => ⟨S128x1, .i32⟩
  | .hbm, ⟨45, _⟩ => ⟨S128x1, .i32⟩
  | .hbm, ⟨46, _⟩ => ⟨S128x1x1, .i32⟩
  | .hbm, ⟨47, _⟩ => ⟨S1, .i32⟩
  | .hbm, ⟨48, _⟩ => ⟨S_, .i32⟩
  | .hbm, ⟨49, _⟩ => ⟨S128x1x1, .i32⟩
  | .hbm, ⟨50, _⟩ => ⟨S128x1x1, .i1⟩
  | .hbm, ⟨51, _⟩ => ⟨S1x1x1, .i32⟩
  | .hbm, ⟨52, _⟩ => ⟨S128x1x1, .i32⟩
  | .hbm, ⟨53, _⟩ => ⟨S128x1x1, .i1⟩
  | .hbm, ⟨54, _⟩ => ⟨S128x1x1, .i1⟩
  | .hbm, ⟨55, _⟩ => ⟨S_, .i1⟩
  | .hbm, ⟨56, _⟩ => ⟨S128x1, .i1⟩
  | .hbm, ⟨57, _⟩ => ⟨S128x1, .f32⟩
  | .hbm, ⟨58, _⟩ => ⟨S_, .f32⟩
  | .hbm, ⟨59, _⟩ => ⟨S128x1, .f32⟩
  | .hbm, ⟨60, _⟩ => ⟨S128x1, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S128x1, .f32⟩
  | .hbm, ⟨65, _⟩ => ⟨S128x1, .f32⟩
  | .hbm, ⟨66, _⟩ => ⟨S128x2, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_call0_cst_0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst_1 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_call1_v0 : Ref sig .tc := ⟨.hbm, 33, rfl⟩
abbrev main_call1_cst : Ref sig .tc := ⟨.hbm, 34, rfl⟩
abbrev main_call1_c : Ref sig .tc := ⟨.hbm, 35, rfl⟩
abbrev main_call1_v1_0 : Ref sig .tc := ⟨.hbm, 36, rfl⟩
abbrev main_v13 : Ref sig .tc := ⟨.hbm, 37, rfl⟩
abbrev main_v14 : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_c_1 : Ref sig .tc := ⟨.hbm, 47, rfl⟩
abbrev main_call2_c_2 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_3 : Ref sig .tc := ⟨.hbm, 55, rfl⟩
abbrev main_call2_v12 : Ref sig .tc := ⟨.hbm, 56, rfl⟩
abbrev main_call2_v13 : Ref sig .tc := ⟨.hbm, 57, rfl⟩
abbrev main_call2_cst : Ref sig .tc := ⟨.hbm, 58, rfl⟩
abbrev main_call2_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩

abbrev nD : Nat := 1
abbrev τ : Topo := Topo.v7x

variable {F : FTy → Type} [FloatOps F]
-- ==== Proof.KernelIdeal.Names.lean ====
/-
  The pieces of the kernel's data movement, each under one name: the half tiles of the transposed weights the
  kernel copies from, the half slots of the two-slot buffer it copies into, the semaphore cell of each half slot,
  and the tail rows. Every slice the kernel's text takes is shown to be one of these.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.ValueLayout
public import Idealize.ShloMosaic.Lib.VecWindow
public import Idealize.ShloMosaic.Lib.Tactic

@[expose] public section

noncomputable section

namespace Cert.Proof.Sampler

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resource algebra: the pipeline's, beside the counters the kernel's own copies use. -/
abbrev UU (nD : Nat) (τ : Topo) : Type := UR sig nD τ × Counters
local notation "𝕄" => MT nD τ sig Unit (Elt F) ℕ (UU nD τ) ℕ
abbrev 𝒱₀ : Variants := Variants.none

omit [FloatOps F] [Named F] in
theorem entails_of_eq {P Q : sProp 𝕄} (e : P = Q) : P ⊢ Q := e ▸ .rfl

/-! ## The buffers -/

/-- The transposed weights, one row per vocabulary entry. -/
abbrev wM : Memref sig .tc .hbm S100000x128 .f32 := Memref.whole main_v0
/-- The two-slot buffer of tiles. -/
abbrev bufM : Memref sig .tc .vmem S2x16384x128 .f32 := Memref.whole cc0_scratch0
/-- The tail's buffer. -/
abbrev tailM : Memref sig .tc .vmem S1696x128 .f32 := Memref.whole cc0_scratch1
/-- The running maximum, sum, weighted sum and index. -/
abbrev mM : Memref sig .tc .vmem S1x128 .f32 := Memref.whole cc0_scratch2
abbrev sM : Memref sig .tc .vmem S1x128 .f32 := Memref.whole cc0_scratch3
abbrev uM : Memref sig .tc .vmem S1x128 .f32 := Memref.whole cc0_scratch4
abbrev iM : Memref sig .tc .vmem S1x128 .f32 := Memref.whole cc0_scratch5

/-! ## Offsets -/

abbrev srcOff (g : Fin 6) (h : Fin 2) : Fin 2 → Nat := ![16384 * g.val + 8192 * h.val, 0]
abbrev halfOff (s h : Fin 2) : Fin 3 → Nat := ![s.val, 8192 * h.val, 0]
abbrev cellOff (s h : Fin 2) : Fin 2 → Nat := ![s.val, h.val]
abbrev slotOff (s : Fin 2) : Fin 3 → Nat := ![s.val, 0, 0]

theorem srcOff_inb (g : Fin 6) (h : Fin 2) : ∀ a, srcOff g h a + S8192x128.size a ≤ S100000x128.size a := by
  have := g.isLt; have := h.isLt; intro a; fin_cases a
  · show 16384 * g.val + 8192 * h.val + 8192 ≤ 100000; omega
  · show 0 + 128 ≤ 128; omega
theorem halfOff_inb (s h : Fin 2) : ∀ a, halfOff s h a + S1x8192x128.size a ≤ S2x16384x128.size a := by
  have := s.isLt; have := h.isLt; intro a; fin_cases a
  · show s.val + 1 ≤ 2; omega
  · show 8192 * h.val + 8192 ≤ 16384; omega
  · show 0 + 128 ≤ 128; omega
theorem cellOff_inb (s h : Fin 2) : ∀ a, cellOff s h a + S1x1.size a ≤ S2x2.size a := by
  have := s.isLt; have := h.isLt; intro a; fin_cases a
  · show s.val + 1 ≤ 2; omega
  · show h.val + 1 ≤ 2; omega
theorem slotOff_inb (s : Fin 2) : ∀ a, slotOff s a + S1x16384x128.size a ≤ S2x16384x128.size a := by
  have := s.isLt; intro a; fin_cases a
  · show s.val + 1 ≤ 2; omega
  · show 0 + 16384 ≤ 16384; omega
  · show 0 + 128 ≤ 128; omega

/-! ## The names -/

/-- Half `h` of tile `g` of the transposed weights. -/
def src (g : Fin 6) (h : Fin 2) : Memref sig .tc .hbm S8192x128 .f32 :=
  wM.slice (Rect.unit (s := S100000x128) (srcOff g h) S8192x128.size (srcOff_inb g h)) (fun _ => rfl)
/-- Half `h` of slot `s` of the buffer. -/
def half (s h : Fin 2) : Memref sig .tc .vmem S8192x128 .f32 :=
  (bufM.slice (Rect.unit (s := S2x16384x128) (halfOff s h) S1x8192x128.size (halfOff_inb s h)) (fun _ => rfl)).squeeze S8192x128 squeezes_S1x8192x128_S8192x128
/-- The semaphore cell of that half slot. -/
def cell (s h : Fin 2) : DmaSems sig S_ :=
  (cc0_scratch6.slice (Rect.unit (s := S2x2) (cellOff s h) S1x1.size (cellOff_inb s h))).squeeze S_ squeezes_S1x1_S_
/-- The tail rows of the transposed weights. -/
def tsrc : Memref sig .tc .hbm S1696x128 .f32 :=
  wM.slice (Rect.unit (s := S100000x128) ![98304, 0] S1696x128.size inb_S100000x128_S1696x128_98304_0) (fun _ => rfl)

/-! ## The kernel's slices are the names -/

theorem cell_congr {off : Fin 2 → Nat} {s h : Fin 2} (e : off = cellOff s h) (hh) :
    (cc0_scratch6.slice (Rect.unit (s := S2x2) off S1x1.size hh)).squeeze S_ squeezes_S1x1_S_ = cell s h :=
  congrArg (fun A : DmaSems sig S1x1 => A.squeeze S_ squeezes_S1x1_S_) (SemArray.slice_unit_congr _ e _ _)
theorem half_congr {off : Fin 3 → Nat} {s h : Fin 2} (e : off = halfOff s h) (hh hs) :
    (bufM.slice (Rect.unit (s := S2x16384x128) off S1x8192x128.size hh) hs).squeeze S8192x128 squeezes_S1x8192x128_S8192x128 = half s h :=
  congrArg (fun M : Memref sig .tc .vmem S1x8192x128 .f32 => M.squeeze S8192x128 squeezes_S1x8192x128_S8192x128) (Memref.slice_unit_congr _ e _ _ _ _)
theorem src_congr {off : Fin 2 → Nat} {g : Fin 6} {h : Fin 2} (e : off = srcOff g h) (hh hs) :
    wM.slice (Rect.unit (s := S100000x128) off S8192x128.size hh) hs = src g h :=
  Memref.slice_unit_congr _ e _ _ (fun _ => rfl) (fun _ => rfl)

@[sl_canon] theorem cell00 (hh) : (cc0_scratch6.slice (Rect.unit (s := S2x2) ![0, 0] S1x1.size hh)).squeeze S_ squeezes_S1x1_S_ = cell 0 0 := cell_congr (by decide) _
@[sl_canon] theorem cell01 (hh) : (cc0_scratch6.slice (Rect.unit (s := S2x2) ![0, 1] S1x1.size hh)).squeeze S_ squeezes_S1x1_S_ = cell 0 1 := cell_congr (by decide) _
@[sl_canon] theorem cell10 (hh) : (cc0_scratch6.slice (Rect.unit (s := S2x2) ![1, 0] S1x1.size hh)).squeeze S_ squeezes_S1x1_S_ = cell 1 0 := cell_congr (by decide) _
@[sl_canon] theorem cell11 (hh) : (cc0_scratch6.slice (Rect.unit (s := S2x2) ![1, 1] S1x1.size hh)).squeeze S_ squeezes_S1x1_S_ = cell 1 1 := cell_congr (by decide) _
@[sl_canon] theorem half00 (hh hs) : (bufM.slice (Rect.unit (s := S2x16384x128) ![0, 0, 0] S1x8192x128.size hh) hs).squeeze S8192x128 squeezes_S1x8192x128_S8192x128 = half 0 0 := half_congr (by decide) _ _
@[sl_canon] theorem half01 (hh hs) : (bufM.slice (Rect.unit (s := S2x16384x128) ![0, 8192, 0] S1x8192x128.size hh) hs).squeeze S8192x128 squeezes_S1x8192x128_S8192x128 = half 0 1 := half_congr (by decide) _ _
@[sl_canon] theorem half10 (hh hs) : (bufM.slice (Rect.unit (s := S2x16384x128) ![1, 0, 0] S1x8192x128.size hh) hs).squeeze S8192x128 squeezes_S1x8192x128_S8192x128 = half 1 0 := half_congr (by decide) _ _
@[sl_canon] theorem half11 (hh hs) : (bufM.slice (Rect.unit (s := S2x16384x128) ![1, 8192, 0] S1x8192x128.size hh) hs).squeeze S8192x128 squeezes_S1x8192x128_S8192x128 = half 1 1 := half_congr (by decide) _ _
@[sl_canon] theorem src00 (hh hs) : wM.slice (Rect.unit (s := S100000x128) ![0, 0] S8192x128.size hh) hs = src 0 0 := src_congr (by decide) _ _
@[sl_canon] theorem src01 (hh hs) : wM.slice (Rect.unit (s := S100000x128) ![8192, 0] S8192x128.size hh) hs = src 0 1 := src_congr (by decide) _ _
@[sl_canon] theorem src10 (hh hs) : wM.slice (Rect.unit (s := S100000x128) ![16384, 0] S8192x128.size hh) hs = src 1 0 := src_congr (by decide) _ _
@[sl_canon] theorem src11 (hh hs) : wM.slice (Rect.unit (s := S100000x128) ![24576, 0] S8192x128.size hh) hs = src 1 1 := src_congr (by decide) _ _
@[sl_canon] theorem tsrc0 (hh hs) : wM.slice (Rect.unit (s := S100000x128) ![98304, 0] S1696x128.size hh) hs = tsrc := rfl

theorem trips_eq : k0_t1_loop.trips = 6 := by decide

theorem off1_eq : ∀ k : Fin k0_t1_loop.trips, k0_off1 k = cellOff (Ring.sl 2 k.val) 0 := by decide
theorem off2_eq : ∀ k : Fin k0_t1_loop.trips, k0_off2 k = halfOff (Ring.sl 2 k.val) 0 := by decide
theorem off30_eq : ∀ k : Fin k0_t1_loop.trips, k0_off3 k 0#32 = srcOff (Ring.bk 6 k.val) 0 := by decide
theorem off31_eq : ∀ k : Fin k0_t1_loop.trips, k0_off3 k 8192#32 = srcOff (Ring.bk 6 k.val) 1 := by decide
theorem off4_eq : ∀ k : Fin k0_t1_loop.trips, k0_off4 k = cellOff (Ring.sl 2 k.val) 1 := by decide
theorem off5_eq : ∀ k : Fin k0_t1_loop.trips, k0_off5 k = halfOff (Ring.sl 2 k.val) 1 := by decide
theorem off6_eq : ∀ k : Fin k0_t1_loop.trips, k0_off6 k = slotOff (Ring.sl 2 k.val) := by decide
theorem off7_eq : ∀ k : Fin k0_t1_loop.trips, k0_off7 k = cellOff (Ring.sl 2 k.val) 0 := by decide
theorem off8_eq : ∀ k : Fin k0_t1_loop.trips, k0_off8 k = halfOff (Ring.sl 2 k.val) 0 := by decide
theorem off90_eq : ∀ k : Fin k0_t1_loop.trips, k.val + 2 < 6 → k0_off9 k 0#32 = srcOff (Ring.bk 6 (k.val + 2)) 0 := by decide
theorem off91_eq : ∀ k : Fin k0_t1_loop.trips, k.val + 2 < 6 → k0_off9 k 8192#32 = srcOff (Ring.bk 6 (k.val + 2)) 1 := by decide
theorem off10_eq : ∀ k : Fin k0_t1_loop.trips, k0_off10 k = cellOff (Ring.sl 2 k.val) 1 := by decide
theorem off11_eq : ∀ k : Fin k0_t1_loop.trips, k0_off11 k = halfOff (Ring.sl 2 k.val) 1 := by decide
/-- The trip prefetches exactly when two more tiles remain. -/
theorem cond1_iff : ∀ k : Fin k0_t1_loop.trips, k0_cond1 k = 1#1 ↔ k.val + 2 < 6 := by decide

section Canon
variable (k : Fin k0_t1_loop.trips)

@[sl_canon] theorem cellK0 (hh) : (cc0_scratch6.slice (Rect.unit (s := S2x2) (k0_off1 k) S1x1.size hh)).squeeze S_ squeezes_S1x1_S_ = cell (Ring.sl 2 k.val) 0 := cell_congr (off1_eq k) _
@[sl_canon] theorem cellK1 (hh) : (cc0_scratch6.slice (Rect.unit (s := S2x2) (k0_off4 k) S1x1.size hh)).squeeze S_ squeezes_S1x1_S_ = cell (Ring.sl 2 k.val) 1 := cell_congr (off4_eq k) _
@[sl_canon] theorem cellI0 (hh) : (cc0_scratch6.slice (Rect.unit (s := S2x2) (k0_off7 k) S1x1.size hh)).squeeze S_ squeezes_S1x1_S_ = cell (Ring.sl 2 k.val) 0 := cell_congr (off7_eq k) _
@[sl_canon] theorem cellI1 (hh) : (cc0_scratch6.slice (Rect.unit (s := S2x2) (k0_off10 k) S1x1.size hh)).squeeze S_ squeezes_S1x1_S_ = cell (Ring.sl 2 k.val) 1 := cell_congr (off10_eq k) _
@[sl_canon] theorem halfK0 (hh hs) : (bufM.slice (Rect.unit (s := S2x16384x128) (k0_off2 k) S1x8192x128.size hh) hs).squeeze S8192x128 squeezes_S1x8192x128_S8192x128 = half (Ring.sl 2 k.val) 0 := half_congr (off2_eq k) _ _
@[sl_canon] theorem halfK1 (hh hs) : (bufM.slice (Rect.unit (s := S2x16384x128) (k0_off5 k) S1x8192x128.size hh) hs).squeeze S8192x128 squeezes_S1x8192x128_S8192x128 = half (Ring.sl 2 k.val) 1 := half_congr (off5_eq k) _ _
@[sl_canon] theorem halfI0 (hh hs) : (bufM.slice (Rect.unit (s := S2x16384x128) (k0_off8 k) S1x8192x128.size hh) hs).squeeze S8192x128 squeezes_S1x8192x128_S8192x128 = half (Ring.sl 2 k.val) 0 := half_congr (off8_eq k) _ _
@[sl_canon] theorem halfI1 (hh hs) : (bufM.slice (Rect.unit (s := S2x16384x128) (k0_off11 k) S1x8192x128.size hh) hs).squeeze S8192x128 squeezes_S1x8192x128_S8192x128 = half (Ring.sl 2 k.val) 1 := half_congr (off11_eq k) _ _
@[sl_canon] theorem srcK0 (hh hs) : wM.slice (Rect.unit (s := S100000x128) (k0_off3 k 0#32) S8192x128.size hh) hs = src (Ring.bk 6 k.val) 0 := src_congr (off30_eq k) _ _
@[sl_canon] theorem srcK1 (hh hs) : wM.slice (Rect.unit (s := S100000x128) (k0_off3 k 8192#32) S8192x128.size hh) hs = src (Ring.bk 6 k.val) 1 := src_congr (off31_eq k) _ _
@[sl_canon] theorem srcI0 (hk : k.val + 2 < 6) (hh hs) : wM.slice (Rect.unit (s := S100000x128) (k0_off9 k 0#32) S8192x128.size hh) hs = src (Ring.bk 6 (k.val + 2)) 0 := src_congr (off90_eq k hk) _ _
@[sl_canon] theorem srcI1 (hk : k.val + 2 < 6) (hh hs) : wM.slice (Rect.unit (s := S100000x128) (k0_off9 k 8192#32) S8192x128.size hh) hs = src (Ring.bk 6 (k.val + 2)) 1 := src_congr (off91_eq k hk) _ _

end Canon

/-! ## Which elements each name covers -/

abbrev SrcSet (g : Fin 6) (h : Fin 2) : Finset S100000x128.Idx := (Rect.unit (s := S100000x128) (srcOff g h) S8192x128.size (srcOff_inb g h)).set
abbrev HalfSet (s h : Fin 2) : Finset S2x16384x128.Idx := (Rect.unit (s := S2x16384x128) (halfOff s h) S1x8192x128.size (halfOff_inb s h)).set
abbrev TailSet : Finset S100000x128.Idx := (Rect.unit (s := S100000x128) ![98304, 0] S1696x128.size inb_S100000x128_S1696x128_98304_0).set

theorem src_set (g : Fin 6) (h : Fin 2) : (src g h).view.set = SrcSet g h := View.set_slice_whole _ _
theorem half_set (s h : Fin 2) : (half s h).view.set = HalfSet s h := (View.set_reshape _ _).trans (View.set_slice_whole _ _)
theorem tsrc_set : tsrc.view.set = TailSet := View.set_slice_whole _ _

theorem mem_src (g : Fin 6) (h : Fin 2) (y : S100000x128.Idx) :
    y ∈ SrcSet g h ↔ 16384 * g.val + 8192 * h.val ≤ (y 0).val ∧ (y 0).val < 16384 * g.val + 8192 * h.val + 8192 := by
  rw [Rect.mem_set_unit]
  have h1 : (y 1).val < 128 := (y 1).isLt
  constructor
  · intro H; exact H 0
  · intro H i; fin_cases i
    · exact H
    · show 0 ≤ (y 1).val ∧ (y 1).val < 0 + 128; omega
theorem mem_tail (y : S100000x128.Idx) : y ∈ TailSet ↔ 98304 ≤ (y 0).val := by
  rw [Rect.mem_set_unit]
  have h0 : (y 0).val < 100000 := (y 0).isLt
  have h1 : (y 1).val < 128 := (y 1).isLt
  constructor
  · intro H; exact (H 0).1
  · intro H i; fin_cases i
    · show 98304 ≤ (y 0).val ∧ (y 0).val < 98304 + 1696; omega
    · show 0 ≤ (y 1).val ∧ (y 1).val < 0 + 128; omega
theorem mem_half (s h : Fin 2) (y : S2x16384x128.Idx) :
    y ∈ HalfSet s h ↔ (y 0).val = s.val ∧ 8192 * h.val ≤ (y 1).val ∧ (y 1).val < 8192 * h.val + 8192 := by
  rw [Rect.mem_set_unit]
  have h2 : (y 2).val < 128 := (y 2).isLt
  constructor
  · intro H
    have a0 : s.val ≤ (y 0).val ∧ (y 0).val < s.val + 1 := H 0
    have a1 : 8192 * h.val ≤ (y 1).val ∧ (y 1).val < 8192 * h.val + 8192 := H 1
    omega
  · intro H i; fin_cases i
    · show s.val ≤ (y 0).val ∧ (y 0).val < s.val + 1; omega
    · exact H.2
    · show 0 ≤ (y 2).val ∧ (y 2).val < 0 + 128; omega

/-- The two halves of a slot. -/
abbrev SlotSet (s : Fin 2) : Finset S2x16384x128.Idx := HalfSet s 0 ∪ HalfSet s 1

theorem halves_disjoint (s : Fin 2) : Disjoint (HalfSet s 0) (HalfSet s 1) := by
  rw [Finset.disjoint_left]; intro y hy hy'; rw [mem_half] at hy hy'
  have e0 : (0 : Fin 2).val = 0 := rfl
  have e1 : (1 : Fin 2).val = 1 := rfl
  omega
theorem mem_slot (s : Fin 2) (y : S2x16384x128.Idx) : y ∈ SlotSet s ↔ (y 0).val = s.val := by
  rw [Finset.mem_union, mem_half, mem_half]
  have h1 : (y 1).val < 16384 := (y 1).isLt
  have e0 : (0 : Fin 2).val = 0 := rfl
  have e1 : (1 : Fin 2).val = 1 := rfl
  omega

/-! ## What a slot holds once a tile has landed -/

/-- The buffer's contents that hold tile `g` of the weights in either slot. -/
def tileBuf (XA : S100000x128.Idx → Elt F .f32) (g : Fin 6) : S2x16384x128.Idx → Elt F .f32 := fun y =>
  XA (ix2 ⟨16384 * g.val + (y 1).val, by have := g.isLt; have h1 : (y 1).val < 16384 := (y 1).isLt; omega⟩ ⟨(y 2).val, (y 2).isLt⟩)

/-- Tile `g` of the weights, as the kernel loads it. -/
def tileVec (XA : S100000x128.Idx → Elt F .f32) (g : Fin 6) : Vec F S1x16384x128 .f32 := fun y =>
  XA (ix2 ⟨16384 * g.val + (y 1).val, by have := g.isLt; have h1 : (y 1).val < 16384 := (y 1).isLt; omega⟩ ⟨(y 2).val, (y 2).isLt⟩)

/-- The tail rows of the weights. -/
def tailVec (XA : S100000x128.Idx → Elt F .f32) : Vec F S1696x128 .f32 := fun y =>
  XA (ix2 ⟨98304 + (y 0).val, by have h1 : (y 0).val < 1696 := (y 0).isLt; omega⟩ ⟨(y 1).val, (y 1).isLt⟩)

omit [FloatOps F] [Named F] in
/-- Half a slot of those contents reads the half tile. -/
theorem half_read (XA : S100000x128.Idx → Elt F .f32) (g : Fin 6) (s h : Fin 2) :
    (half s h).view.read (Elt F) (tileBuf XA g) = (src g h).view.read (Elt F) XA := by
  funext x
  rw [eq_ix2 x]
  obtain ⟨a, ha⟩ : ∃ a : Fin 8192, a = x 0 := ⟨_, rfl⟩
  obtain ⟨b, hb⟩ : ∃ b : Fin 128, b = x 1 := ⟨_, rfl⟩
  rw [← ha, ← hb]
  have e1 : (half s h).view.emb (ix2 a b) = ix3 (⟨s.val, s.isLt⟩ : Fin 2) (⟨8192 * h.val + a.val, by have := h.isLt; have := a.isLt; omega⟩ : Fin 16384) (⟨b.val, b.isLt⟩ : Fin 128) := by
    show (Rect.unit (s := S2x16384x128) (halfOff s h) S1x8192x128.size (halfOff_inb s h)).emb (Shape.reshapeEquiv _ (ix2 a b)) = _
    rw [reshapeEquiv_ix2_1ab]
    funext i; fin_cases i <;> apply Fin.ext
    · show s.val + 1 * 0 = s.val; omega
    · show 8192 * h.val + 1 * a.val = _; simp
    · show 0 + 1 * b.val = b.val; omega
  have e2 : (src g h).view.emb (ix2 a b) = ix2 (⟨16384 * g.val + 8192 * h.val + a.val, by have := h.isLt; have := g.isLt; have := a.isLt; omega⟩ : Fin 100000) (⟨b.val, b.isLt⟩ : Fin 128) := by
    show (Rect.unit (s := S100000x128) (srcOff g h) S8192x128.size (srcOff_inb g h)).emb (ix2 a b) = _
    funext i; fin_cases i <;> apply Fin.ext
    · show 16384 * g.val + 8192 * h.val + 1 * a.val = _; simp
    · show 0 + 1 * b.val = b.val; omega
  show tileBuf XA g ((half s h).view.emb (ix2 a b)) = XA ((src g h).view.emb (ix2 a b))
  rw [e1, e2]
  show XA _ = XA _
  refine congrArg XA ?_
  funext i; fin_cases i <;> apply Fin.ext
  · show 16384 * g.val + (8192 * h.val + a.val) = 16384 * g.val + 8192 * h.val + a.val; omega
  · rfl

omit [FloatOps F] [Named F] in
/-- The kernel's load of a slot reads the tile. -/
theorem slot_read (XA : S100000x128.Idx → Elt F .f32) (g : Fin 6) {off : Fin 3 → Nat} {s : Fin 2} (e : off = slotOff s) (hh) :
    bufM.view.readAt (Elt F) (Rect.unit (s := S2x16384x128) off S1x16384x128.size hh).toLoadRect (tileBuf XA g) = tileVec XA g := by
  subst e
  funext y
  show tileBuf XA g _ = _
  refine congrArg XA ?_
  funext i; fin_cases i <;> apply Fin.ext
  · show 16384 * g.val + (0 + 1 * (y 1).val) = 16384 * g.val + (y 1).val; omega
  · show 0 + 1 * (y 2).val = (y 2).val; omega

omit [FloatOps F] [Named F] in
/-- The tail's source reads the tail rows. -/
theorem tsrc_read (XA : S100000x128.Idx → Elt F .f32) : tsrc.view.read (Elt F) XA = tailVec XA := by
  funext y
  show XA _ = XA _
  refine congrArg XA ?_
  funext i; fin_cases i <;> apply Fin.ext
  · show 98304 + 1 * (y 0).val = 98304 + (y 0).val; omega
  · show 0 + 1 * (y 1).val = (y 1).val; omega

end Cert.Proof.Sampler

end
-- ==== Proof.KernelIdeal.Trip.lean ====
/-
  One trip of the kernel's loop over the tiles: what the core holds before a trip, and that a trip takes the
  running maximum, sum, weighted sum and index one step on.
-/
module

public import proofs.«01_k».proof.Proof.KernelIdeal.Names

@[expose] public section

noncomputable section

namespace Cert.Proof.Sampler

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

/-! ## The running state -/

/-- The four running rows: maximum, sum of exponentials, weighted sum, index. -/
structure St (F : FTy → Type) [FloatOps F] where
  m : FVec F S1x128 .f32
  s : FVec F S1x128 .f32
  u : FVec F S1x128 .f32
  i : FVec F S1x128 .f32

/-- The state before the first tile. -/
def St.init : St F := ⟨k0_pay14, k0_pay15, k0_pay16, k0_pay17⟩

/-- The state after one more tile `T`, the `k`-th, at the features `x`. -/
def St.step (x : FVec F S128x128 .f32) (k : Fin k0_t1_loop.trips) (T : Vec F S1x16384x128 .f32) (σ : St F) : St F where
  m := k0_pay12 (k0_pay4 x T σ.m)
  s := k0_pay9 (k0_pay5 x T σ.m) (k0_pay6 x T σ.m) σ.s
  u := k0_pay10 (k0_pay1 x T) (k0_pay5 x T σ.m) (k0_pay6 x T σ.m) σ.u
  i := k0_pay11 k0_pay19 (k0_pay2 (Scalar.ofBits .f32 0x4B800000#32) 0#32 1#32 k) (k0_pay3 x T) σ.m (k0_pay7 x T σ.m) k0_pay8 σ.i

/-- The state after the first `k` tiles of the weights `XA`. -/
def St.run (x : FVec F S128x128 .f32) (XA : S100000x128.Idx → Elt F .f32) : ℕ → St F
  | 0 => St.init
  | k + 1 => if h : k < k0_t1_loop.trips then St.step x ⟨k, h⟩ (tileVec XA (Ring.bk 6 k)) (St.run x XA k) else St.run x XA k

/-! ## The pieces held -/

section Pieces
variable (c : Dev nD) (XA : S100000x128.Idx → Elt F .f32)

abbrev cellP (s h : Fin 2) : sProp 𝕄 := semVal ((c : Thread nD τ), SemLoc.dma (cell s h).sem) 0
abbrev halfP (s h : Fin 2) (f : S2x16384x128.Idx → Elt F .f32) : sProp 𝕄 :=
  (half s h).view.loc (c : Thread nD τ) ↦[(half s h).view.set]{fullShare} f
/-- Half a tile of the weights, where it lives. -/
abbrev homeH (g : Fin 6) (h : Fin 2) : sProp 𝕄 := (src g h).view.loc (c : Thread nD τ) ↦[(src g h).view.set]{fullShare} XA
/-- A tile of the weights, where it lives. -/
abbrev homeP (g : Fin 6) : sProp 𝕄 := iprop(homeH c XA g 0 ∗ homeH c XA g 1)
/-- Half of slot `s` in flight with half of tile `g`. -/
abbrev flightH (s : Fin 2) (g : Fin 6) (h : Fin 2) : sProp 𝕄 :=
  Transfers.Flight countersEmb (c : Thread nD τ) (SemLoc.dma (cell s h).sem) () 131072 iprop(halfP c s h (tileBuf XA g) ∗ homeH c XA g h)
/-- Slot `s` free: its halves at anything, its cells at zero. -/
abbrev freeP (s : Fin 2) : sProp 𝕄 :=
  iprop((∃ f, halfP (F := F) c s 0 f) ∗ (∃ f, halfP (F := F) c s 1 f) ∗ cellP (F := F) c s 0 ∗ cellP (F := F) c s 1)
/-- The slot of the `j`-th tile: in flight with it while there is a `j`-th tile, else free. -/
def roleP (j : ℕ) : sProp 𝕄 :=
  if j < 6 then iprop(flightH c XA (Ring.sl 2 j) (Ring.bk 6 j) 0 ∗ flightH c XA (Ring.sl 2 j) (Ring.bk 6 j) 1) else freeP c (Ring.sl 2 j)

/-- A row buffer held at a row. -/
abbrev rowP (M : Memref sig .tc .vmem S1x128 .f32) (v : FVec F S1x128 .f32) : sProp 𝕄 :=
  M.view.loc (c : Thread nD τ) ↦[M.view.set]{fullShare} M.view.rep v

/-- The four running rows held at a state. -/
abbrev stP (σ : St F) : sProp 𝕄 := iprop(rowP c mM σ.m ∗ rowP c sM σ.s ∗ rowP c uM σ.u ∗ rowP c iM σ.i)

/-- What the core holds before trip `k` at state `σ`. -/
def resAt (k : ℕ) (σ : St F) : sProp 𝕄 :=
  iprop(stP c σ ∗ (∃ W, owes (c : Thread nD τ) 0 W)
    ∗ bigSep (Ring.homeSet 2 k) (homeP c XA) ∗ roleP c XA k ∗ roleP c XA (k + 1))

theorem homes_here (k : ℕ) (hk : k + 2 < 6) :
    bigSep (Ring.homeSet 2 k) (homeP c XA) = iprop(homeP c XA (Ring.bk 6 (k + 2)) ∗ bigSep ((Ring.homeSet 2 k).erase (Ring.bk 6 (k + 2))) (homeP c XA)) := by
  conv_lhs => rw [Ring.homeSet_out 2 k hk, bigSep_insert (Ring.bkL_not_mem_erase 2 k)]
  rfl
theorem homes_next (k : ℕ) (hk : k + 2 < 6) :
    bigSep (Ring.homeSet 2 (k + 1)) (homeP c XA) = iprop(homeP c XA (Ring.bk 6 k) ∗ bigSep ((Ring.homeSet 2 k).erase (Ring.bk 6 (k + 2))) (homeP c XA)) := by
  conv_lhs => rw [Ring.homeSet_succ 2 k hk, bigSep_insert (Ring.bk_not_mem_erase 2 k (by omega) (by decide))]
  rfl
theorem homes_tail (k : ℕ) (hk : 6 ≤ k + 2) (hk6 : k < 6) :
    bigSep (Ring.homeSet 2 (k + 1)) (homeP c XA) = iprop(homeP c XA (Ring.bk 6 k) ∗ bigSep (Ring.homeSet 2 k) (homeP c XA)) := by
  rw [Ring.homeSet_succ_tail 2 k hk hk6, bigSep_insert (Ring.bk_not_mem_homeSet 2 k hk6 (by decide))]
  rfl

/-- A slot's halves make the slot. -/
theorem slot_join (s : Fin 2) (f : S2x16384x128.Idx → Elt F .f32) :
    iprop(halfP c s 0 f ∗ halfP c s 1 f) ⊢ (bufM.view.loc (c : Thread nD τ) ↦[SlotSet s]{fullShare} f : sProp 𝕄) := by
  have h := pointsTo_union (Ix := Unit) (Name := ℕ) (U := UU nD τ) (Lvl := ℕ) (ℓ := bufM.view.loc (c : Thread nD τ)) (q := fullShare) (f := f) (halves_disjoint s)
  unfold halfP
  rw [half_set, half_set]
  exact h.2
/-- A slot makes its halves. -/
theorem slot_split (s : Fin 2) (f : S2x16384x128.Idx → Elt F .f32) :
    (bufM.view.loc (c : Thread nD τ) ↦[SlotSet s]{fullShare} f : sProp 𝕄) ⊢ iprop(halfP c s 0 f ∗ halfP c s 1 f) := by
  have h := pointsTo_union (Ix := Unit) (Name := ℕ) (U := UU nD τ) (Lvl := ℕ) (ℓ := bufM.view.loc (c : Thread nD τ)) (q := fullShare) (f := f) (halves_disjoint s)
  unfold halfP
  rw [half_set, half_set]
  exact h.1

/-- A buffer after a whole store holds what was stored. -/
theorem stored_rep {sp : Space} {s : Shape} {e : EltTy} (M : Memref sig .tc sp s e) (f : Buf (Elt F) (M.view.loc (c : Thread nD τ))) {off : Fin s.rank → ℕ}
    (inb : ∀ a, off a + s.size a ≤ s.size a) (w : s.Idx → Elt F e) (L : List (View.Piece (Elt F) s e)) :
    (M.view.loc (c : Thread nD τ) ↦[M.view.set]{fullShare} M.view.writes (Elt F) f (⟨Rect.unit off s.size inb, w⟩ :: L) : sProp 𝕄)
      ⊢ M.view.loc (c : Thread nD τ) ↦[M.view.set]{fullShare} M.view.rep w :=
  by
  refine pointsTo_rep_of_read (Val := Elt F) c.tc M _ fullShare w ?_
  funext y
  have e : (Rect.unit off s.size inb).emb y = y := funext fun a => Fin.ext (by
    show off a + 1 * (y a).val = (y a).val
    have := inb a; omega)
  conv_lhs => rw [← e]
  exact View.read_writes_cons_emb M.view f (Rect.unit off s.size inb) w L y

/-- The same for a transfer of the whole. -/
theorem landed_rep {sp : Space} {s : Shape} {e : EltTy} (M : Memref sig .tc sp s e) (f : Buf (Elt F) (M.view.loc (c : Thread nD τ)))
    (w : s.Idx → Elt F e) (L : List (View.Piece (Elt F) s e)) :
    (M.view.loc (c : Thread nD τ) ↦[M.view.set]{fullShare} M.view.writes (Elt F) f (⟨Rect.whole s, w⟩ :: L) : sProp 𝕄)
      ⊢ M.view.loc (c : Thread nD τ) ↦[M.view.set]{fullShare} M.view.rep w :=
  stored_rep c M f (off := fun _ => 0) (fun a => (Nat.zero_add _).le) w L

/-- A half slot after a transfer of half a tile holds that half tile. -/
theorem half_landed (g : Fin 6) (s h : Fin 2) (f : Buf (Elt F) ((half s h).view.loc (c : Thread nD τ))) (L : List (View.Piece (Elt F) S8192x128 .f32)) :
    ((half s h).view.loc (c : Thread nD τ) ↦[(half s h).view.set]{fullShare} (half s h).view.writes (Elt F) f (⟨Rect.whole S8192x128, ReadAs.same.apply ((src g h).view.read (Elt F) XA)⟩ :: L) : sProp 𝕄)
      ⊢ halfP c s h (tileBuf XA g) := by
  refine (landed_rep c (half s h) f _ L).trans ?_
  have e : ∀ f' : Buf (Elt F) ((half s h).view.loc (c : Thread nD τ)), (half s h).view.read (Elt F) f' = (src g h).view.read (Elt F) XA →
      (((half s h).view.loc (c : Thread nD τ) ↦[(half s h).view.set]{fullShare} (half s h).view.rep ((src g h).view.read (Elt F) XA) : sProp 𝕄)
        ⊢ (half s h).view.loc (c : Thread nD τ) ↦[(half s h).view.set]{fullShare} f') := fun f' hf => by
    rw [← hf]
    exact entails_of_eq (pointsTo_rep (Val := Elt F) c.tc (half s h) f' fullShare).symm
  exact e (tileBuf XA g) (half_read XA g s h)

/-- A flight of half a tile, as the transfer states it, is a flight that lands the half tile. -/
theorem flight_landed (g : Fin 6) (s h : Fin 2) (f : Buf (Elt F) ((half s h).view.loc (c : Thread nD τ))) (L : List (View.Piece (Elt F) S8192x128 .f32)) :
    (Transfers.Flight countersEmb (c : Thread nD τ) (SemLoc.dma (cell s h).sem) () 131072
      iprop(((half s h).view.loc (c : Thread nD τ) ↦[(half s h).view.set]{fullShare} (half s h).view.writes (Elt F) f (⟨Rect.whole S8192x128, ReadAs.same.apply ((src g h).view.read (Elt F) XA)⟩ :: L)) ∗ homeH c XA g h) : sProp 𝕄)
      ⊢ flightH c XA s g h :=
  Transfers.Flight_mono countersEmb _ (sep_mono (half_landed c XA g s h f L) .rfl)

theorem role_flight (k : ℕ) (hk : k + 2 < 6) :
    roleP c XA (k + 1 + 1) = iprop(flightH c XA (Ring.sl 2 k) (Ring.bk 6 (k + 2)) 0 ∗ flightH c XA (Ring.sl 2 k) (Ring.bk 6 (k + 2)) 1) := by
  unfold roleP
  rw [if_pos (show k + 1 + 1 < 6 by omega), show k + 1 + 1 = k + 2 from rfl, Ring.sl_add]
theorem role_free (k : ℕ) (hk : ¬ k + 2 < 6) : roleP c XA (k + 1 + 1) = freeP c (Ring.sl 2 k) := by
  unfold roleP
  rw [if_neg (show ¬ k + 1 + 1 < 6 by omega), show k + 1 + 1 = k + 2 from rfl, Ring.sl_add]

end Pieces

/-- The box the kernel loads a slot by lies in the slot. -/
theorem load_subset {off : Fin 3 → Nat} {s : Fin 2} (e : off = slotOff s) (hh) :
    bufM.view.setOn (Rect.unit (s := S2x16384x128) off S1x16384x128.size hh).toLoadRect.set ⊆ SlotSet s := by
  subst e
  intro y hy
  rw [mem_slot]
  have hy' : y ∈ (Rect.unit (s := S2x16384x128) (slotOff s) S1x16384x128.size hh).set := by
    obtain ⟨z, hz, rfl⟩ := Finset.mem_map.mp hy
    exact hz
  have h0 : s.val ≤ (y 0).val ∧ (y 0).val < s.val + 1 := (Rect.mem_set_unit.mp hy') 0
  omega

/-! ## One trip -/

section Trip
variable (c : Dev nD) (XA : S100000x128.Idx → Elt F .f32)
  (arg0 : Memref sig .tc .vmem S128x128 .f32) (harg0 : arg0.IsWhole)
  (arg2 : Memref sig .tc .vmem S128x1 .f32) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S1x128 .f32) (harg6 : arg6.IsWhole)
  (x : FVec F S128x128 .f32)

/-- The whole of a row buffer, as the kernel's loads and stores take it. -/
abbrev R1 : Rect S1x128 := Rect.unit (s := S1x128) ![0, 0] S1x128.size inb_S1x128_S1x128_0_0

/-- The trip's program. -/
abbrev tripG (k : Fin k0_t1_loop.trips) : Prog (TpuEff nD τ sig (Elt F) Λ₀ .tc) Unit :=
  k0_t1_body (F := F) arg0 harg0 wM (Memref.isWhole_whole _) arg2 harg2 arg3 harg3 arg4 harg4 arg5 harg5 arg6 harg6 bufM (Memref.isWhole_whole _) tailM (Memref.isWhole_whole _) mM (Memref.isWhole_whole _) sM (Memref.isWhole_whole _) uM (Memref.isWhole_whole _) iM (Memref.isWhole_whole _) cc0_scratch6 cc0_scratch7 x k0_pay19 (Scalar.ofBits .f32 0x4B800000#32) 0#32 6#32 k ()

theorem trip (k : Fin k0_t1_loop.trips) (σ : St F) :
    resAt c XA k.val σ ⊢ wp frame (wpE (defs₀ (F := F)) 𝒱₀ (c : Thread nD τ) none) Set.univ (tripG arg0 harg0 arg2 harg2 arg3 harg3 arg4 harg4 arg5 harg5 arg6 harg6 x k)
        (fun _ => resAt c XA (k.val + 1) (St.step x k (tileVec XA (Ring.bk 6 k.val)) σ)) := by
  have hk6 : k.val < 6 := by have := k.isLt; have := trips_eq; omega
  unfold resAt
  rw [show roleP c XA k.val = iprop(flightH c XA (Ring.sl 2 k.val) (Ring.bk 6 k.val) 0 ∗ flightH c XA (Ring.sl 2 k.val) (Ring.bk 6 k.val) 1) from if_pos hk6]
  iintro ⟨⟨Hm, Hs, Hu, Hi⟩, ⟨%W, HW⟩, Hh, ⟨HF0, HF1⟩, Hr⟩
  dsimp only [tripG]
  sl_unfold [k0_t1_body]
  sl_exec
  ihave HS := (slot_join c (Ring.sl 2 k.val) (tileBuf XA (Ring.bk 6 k.val))) $$ [HF0_dst HF1_dst]
  · isplitl [HF0_dst]; · iexact HF0_dst
    iexact HF1_dst
  iapply (wp_load 𝒱₀ (c : Thread nD τ) none Set.univ (load_subset (off6_eq k) _)) $$ HS
  iintro HS
  rw [slot_read XA (Ring.bk 6 k.val) (off6_eq k)]
  ihave HS := (slot_split c (Ring.sl 2 k.val) (tileBuf XA (Ring.bk 6 k.val))) $$ HS
  icases HS with ⟨HS0, HS1⟩
  sl_exec
  have eσ : stP (F := F) c (St.step x k (tileVec XA (Ring.bk 6 k.val)) σ)
      = iprop(rowP c mM (trip.sl.v186 XA x k σ) ∗ rowP c sM (trip.sl.v169 XA x k σ) ∗ rowP c uM (trip.sl.v175 XA x k σ) ∗ rowP c iM (trip.sl.v183 XA x k σ)) := by
    simp only [stP, St.step]
    delta trip.sl.v186 trip.sl.v169 trip.sl.v175 trip.sl.v183
    delta trip.sl.r_4 trip.sl.v166 trip.sl.v172 trip.sl.v180
    delta trip.sl.v165 trip.sl.v160 trip.sl.v171 trip.sl.v163 trip.sl.v176 trip.sl.v178
    delta trip.sl.r_5 trip.sl.v159 trip.sl.v162 trip.sl.r_2 trip.sl.r_3 trip.sl.v177 trip.sl.v158
    delta trip.sl.v161 trip.sl.v157 trip.sl.r_6 trip.sl.r_1 trip.sl.r
    delta trip.sl.v156
    delta trip.sl.r_7
    rw [View.readAt_rep_full mM.view, View.readAt_rep_full sM.view, View.readAt_rep_full uM.view, View.readAt_rep_full iM.view]
    rfl
  rw [eσ]

  ihave Hm := (stored_rep c mM _ _ _) $$ Hm
  ihave Hs := (stored_rep c sM _ _ _) $$ Hs
  ihave Hu := (stored_rep c uM _ _ _) $$ Hu
  ihave Hi := (stored_rep c iM _ _ _) $$ Hi
  by_cases hk2 : k.val + 2 < 6
  · have hc : k0_cond1 k = 1#1 := (cond1_iff k).mpr hk2
    ihave Hh := (entails_of_eq (homes_here c XA k.val hk2)) $$ Hh
    icases Hh with ⟨⟨Hg0, Hg1⟩, Hh⟩
    sl_exec
    sl_step
    isplitl [Hm Hs Hu Hi]
    · isplitl [Hm]; · iexact Hm
      isplitl [Hs]; · iexact Hs
      isplitl [Hu]; · iexact Hu
      iexact Hi
    isplitl [HW]; · iexists _; iexact HW
    isplitl [HF0_src HF1_src Hh]
    · iapply (entails_of_eq (homes_next c XA k.val hk2).symm)
      isplitl [HF0_src HF1_src]
      · isplitl [HF0_src]; · iexact HF0_src
        iexact HF1_src
      iexact Hh
    isplitl [Hr]; · iexact Hr
    iapply (entails_of_eq (role_flight c XA k.val hk2).symm)
    isplitl [HF0]
    · iapply (flight_landed c XA (Ring.bk 6 (k.val + 2)) (Ring.sl 2 k.val) 0 (tileBuf XA (Ring.bk 6 k.val)) [])
      iexact HF0
    · iapply (flight_landed c XA (Ring.bk 6 (k.val + 2)) (Ring.sl 2 k.val) 1 (tileBuf XA (Ring.bk 6 k.val)) [])
      iexact HF1
  · have hc : ¬ k0_cond1 k = 1#1 := fun h => hk2 ((cond1_iff k).mp h)
    sl_exec
    sl_step
    isplitl [Hm Hs Hu Hi]
    · isplitl [Hm]; · iexact Hm
      isplitl [Hs]; · iexact Hs
      isplitl [Hu]; · iexact Hu
      iexact Hi
    isplitl [HW]; · iexists _; iexact HW
    isplitl [HF0_src HF1_src Hh]
    · iapply (entails_of_eq (homes_tail c XA k.val (by omega) hk6).symm)
      isplitl [HF0_src HF1_src]
      · isplitl [HF0_src]; · iexact HF0_src
        iexact HF1_src
      iexact Hh
    isplitl [Hr]; · iexact Hr
    iapply (entails_of_eq (role_free c XA k.val hk2).symm)
    isplitl [HS0]; · iexists _; iexact HS0
    isplitl [HS1]; · iexists _; iexact HS1
    isplitl [HF0]; · iexact HF0
    iexact HF1

end Trip

end Cert.Proof.Sampler

end
-- ==== Proof.KernelIdeal.Body.lean ====
/-
  The kernel's body: from the features and the small weights in its staging buffers and the transposed weights in
  their own memory to the four result rows.
-/
module

public import proofs.«01_k».proof.Proof.KernelIdeal.Trip

@[expose] public section

noncomputable section

namespace Cert.Proof.Sampler

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

/-! ## The rows the body computes -/

/-- The state after the tail rows `T`. -/
def St.tail (x : FVec F S128x128 .f32) (T : Vec F S1696x128 .f32) (σ : St F) : St F where
  m := k0_pay31 (k0_pay23 x T σ.m)
  s := k0_pay28 x T σ.m σ.s
  u := k0_pay29 (k0_pay24 x T σ.m) (k0_pay27 x T σ.m) σ.u
  i := k0_pay30 k0_pay21 (k0_pay22 x T) σ.m (k0_pay26 x T σ.m) σ.i

/-- The state after the whole vocabulary. -/
def St.final (X : Vec F S128x128 .f32) (XA : S100000x128.Idx → Elt F .f32) : St F :=
  St.tail (k0_pay18 X) (tailVec XA) (St.run (k0_pay18 X) XA 6)

section Body
variable (c : Dev nD) (XA : S100000x128.Idx → Elt F .f32)
  (arg0 : Memref sig .tc .vmem S128x128 .f32) (harg0 : arg0.IsWhole)
  (arg2 : Memref sig .tc .vmem S128x1 .f32) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S1x128 .f32) (harg6 : arg6.IsWhole)
  (x : FVec F S128x128 .f32)

/-- A buffer held at anything. -/
abbrev someP {sp : Space} {s : Shape} {e : EltTy} (M : Memref sig .tc sp s e) : sProp 𝕄 :=
  iprop(∃ f : Buf (Elt F) (M.view.loc (c : Thread nD τ)), M.view.loc (c : Thread nD τ) ↦[M.view.set]{fullShare} f)
/-- A buffer held at given contents. -/
abbrev atP {sp : Space} {s : Shape} {e : EltTy} (M : Memref sig .tc sp s e) (v : s.Idx → Elt F e) : sProp 𝕄 :=
  M.view.loc (c : Thread nD τ) ↦[M.view.set]{fullShare} M.view.rep v
abbrev tailHome : sProp 𝕄 := tsrc.view.loc (c : Thread nD τ) ↦[tsrc.view.set]{fullShare} XA
abbrev tailCell : sProp 𝕄 := semVal ((c : Thread nD τ), SemLoc.dma cc0_scratch7.sem) 0

/-- The body's own buffers and cells, at anything and at zero. -/
def scratchP : sProp 𝕄 :=
  iprop(freeP (F := F) c 0 ∗ freeP (F := F) c 1 ∗ someP (F := F) c tailM ∗ tailCell (F := F) c
    ∗ someP (F := F) c mM ∗ someP (F := F) c sM ∗ someP (F := F) c uM ∗ someP (F := F) c iM)

/-- The transposed weights, tile by tile. -/
def weightsP : sProp 𝕄 :=
  iprop(homeP c XA 0 ∗ homeP c XA 1 ∗ bigSep (Ring.homeSet 2 0) (homeP c XA) ∗ tailHome c XA)

/-- Before the first trip the first two tiles are in flight. -/
theorem role_zero : roleP c XA 0 = iprop(flightH c XA 0 0 0 ∗ flightH c XA 0 0 1) := by
  unfold roleP
  rw [if_pos (by omega), show Ring.sl 2 0 = 0 from rfl, show Ring.bk 6 0 = 0 from rfl]
theorem role_one : roleP c XA 1 = iprop(flightH c XA 1 1 0 ∗ flightH c XA 1 1 1) := by
  unfold roleP
  rw [if_pos (by omega), show Ring.sl 2 1 = 1 from rfl, show Ring.bk 6 1 = 1 from rfl]
/-- After the last trip both slots are free. -/
theorem role_six : roleP c XA 6 = freeP c 0 := by
  unfold roleP
  rw [if_neg (by omega), show Ring.sl 2 6 = 0 from rfl]
theorem role_seven : roleP c XA 7 = freeP c 1 := by
  unfold roleP
  rw [if_neg (by omega), show Ring.sl 2 7 = 1 from rfl]

/-- After the last trip every tile is home. -/
theorem homes_six : bigSep (Ring.homeSet 2 6) (homeP c XA) ⊢ iprop(homeP c XA 0 ∗ homeP c XA 1 ∗ bigSep (Ring.homeSet 2 0) (homeP c XA)) := by
  have e : (Ring.homeSet 2 6 : Finset (Fin 6)) = insert 0 (insert 1 (Ring.homeSet 2 0)) := by decide
  rw [e, bigSep_insert (by decide), bigSep_insert (by decide)]
  exact .rfl

/-- What the loop leaves. -/
theorem res_end : resAt c XA (Scf.trips k0_t1_loop.lb k0_t1_loop.ub k0_t1_loop.st) (St.run x XA (Scf.trips k0_t1_loop.lb k0_t1_loop.ub k0_t1_loop.st))
    ⊢ iprop(stP c (St.run x XA 6) ∗ (∃ W, owes (c : Thread nD τ) 0 W) ∗ homeP c XA 0 ∗ homeP c XA 1 ∗ bigSep (Ring.homeSet 2 0) (homeP c XA)
      ∗ freeP (F := F) c 0 ∗ freeP (F := F) c 1) := by
  rw [show Scf.trips k0_t1_loop.lb k0_t1_loop.ub k0_t1_loop.st = 6 from trips_eq]
  unfold resAt
  rw [role_six, role_seven]
  iintro ⟨Hs, HW, Hh, Hf0, Hf1⟩
  ihave Hh := (homes_six c XA) $$ Hh
  icases Hh with ⟨Hh0, Hh1, Hh⟩
  isplitl [Hs]; · iexact Hs
  isplitl [HW]; · iexact HW
  isplitl [Hh0]; · iexact Hh0
  isplitl [Hh1]; · iexact Hh1
  isplitl [Hh]; · iexact Hh
  isplitl [Hf0]; · iexact Hf0
  iexact Hf1

/-- The tail's transfer lands the tail rows. -/
theorem tail_landed (f : Buf (Elt F) (tailM.view.loc (c : Thread nD τ))) (L : List (View.Piece (Elt F) S1696x128 .f32)) :
    (Transfers.Flight countersEmb (c : Thread nD τ) (SemLoc.dma ⟨10, by decide⟩) default 27136
      (iprop((tailM.view.loc (c : Thread nD τ) ↦[tailM.view.set]{fullShare} tailM.view.writes (Elt F) f (⟨Rect.whole S1696x128, ReadAs.same.apply (tsrc.view.read (Elt F) XA)⟩ :: L))
        ∗ tailHome c XA)) : sProp 𝕄)
    ⊢ Transfers.Flight countersEmb (c : Thread nD τ) (SemLoc.dma ⟨10, by decide⟩) default 27136
      (iprop(atP c tailM (tailVec XA) ∗ tailHome c XA)) := by
  rw [← tsrc_read XA]
  exact Transfers.Flight_mono countersEmb _ (sep_mono (landed_rep c tailM f _ L) .rfl)

/-- The body's program. -/
abbrev bodyG : Prog (TpuEff nD τ sig (Elt F) Λ₀ .tc) PUnit :=
  cc0__body arg0 harg0 wM (Memref.isWhole_whole _) arg2 harg2 arg3 harg3 arg4 harg4 arg5 harg5 arg6 harg6 bufM (Memref.isWhole_whole _) tailM (Memref.isWhole_whole _) mM (Memref.isWhole_whole _) sM (Memref.isWhole_whole _) uM (Memref.isWhole_whole _) iM (Memref.isWhole_whole _) cc0_scratch6 cc0_scratch7

theorem bodyRun (X : Vec F S128x128 .f32) (X2 : Vec F S128x1 .f32) (W : Waits sig Unit) (Q : PUnit → sProp 𝕄) :
    iprop((atP c arg0 X ∗ atP c arg2 X2 ∗ someP c arg3 ∗ someP c arg4 ∗ someP c arg5 ∗ someP c arg6
        ∗ weightsP c XA ∗ scratchP c ∗ owes (c : Thread nD τ) 0 W)
      ∗ ((atP c arg0 X ∗ atP c arg2 X2 ∗ atP c arg3 (St.final X XA).i ∗ atP c arg4 (k0_pay13 X X2)
          ∗ atP c arg5 (k0_pay33 (St.final X XA).s) ∗ atP c arg6 (k0_pay34 (St.final X XA).s (St.final X XA).m (St.final X XA).u)
          ∗ weightsP c XA ∗ scratchP c ∗ ∃ W, owes (c : Thread nD τ) 0 W) -∗ Q ⟨⟩))
      ⊢ wp frame (wpE (defs₀ (F := F)) 𝒱₀ (c : Thread nD τ) none) Set.univ (bodyG arg0 harg0 arg2 harg2 arg3 harg3 arg4 harg4 arg5 harg5 arg6 harg6) Q := by
  unfold weightsP scratchP
  iintro ⟨⟨Hx, Hwd, ⟨%f3, H3⟩, ⟨%f4, H4⟩, ⟨%f5, H5⟩, ⟨%f6, H6⟩, ⟨⟨Hg00, Hg01⟩, ⟨Hg10, Hg11⟩, Hh, Ht⟩,
    ⟨⟨⟨%f00, Hs00⟩, ⟨%f01, Hs01⟩, Hc00, Hc01⟩, ⟨⟨%f10, Hs10⟩, ⟨%f11, Hs11⟩, Hc10, Hc11⟩, ⟨%f8, Htl⟩, Hct, ⟨%g0, Hm⟩, ⟨%g1, Hs⟩, ⟨%g2, Hu⟩, ⟨%g3, Hi⟩⟩, HW⟩, Hk⟩
  sl_exec
  have em : (bodyRun.sl.Hm_1 (F := F)) = [⟨Rect.unit ![0, 0] S1x128.size inb_S1x128_S1x128_0_0, k0_pay14⟩] := rfl
  ihave Hm := (entails_of_eq (congrArg (fun L => (mM.view.loc c.tc ↦[mM.view.set]{fullShare} mM.view.writes (Elt F) mM.view.junk L)) em)) $$ Hm
  ihave Hm := (stored_rep c mM _ inb_S1x128_S1x128_0_0 (k0_pay14 (F := F)) []) $$ Hm
  have es : (bodyRun.sl.Hs_1 (F := F)) = [⟨Rect.unit ![0, 0] S1x128.size inb_S1x128_S1x128_0_0, k0_pay15⟩] := rfl
  ihave Hs := (entails_of_eq (congrArg (fun L => (sM.view.loc c.tc ↦[sM.view.set]{fullShare} sM.view.writes (Elt F) sM.view.junk L)) es)) $$ Hs
  ihave Hs := (stored_rep c sM _ inb_S1x128_S1x128_0_0 (k0_pay15 (F := F)) []) $$ Hs
  have eu : (bodyRun.sl.Hu_1 (F := F)) = [⟨Rect.unit ![0, 0] S1x128.size inb_S1x128_S1x128_0_0, k0_pay16⟩] := rfl
  ihave Hu := (entails_of_eq (congrArg (fun L => (uM.view.loc c.tc ↦[uM.view.set]{fullShare} uM.view.writes (Elt F) uM.view.junk L)) eu)) $$ Hu
  ihave Hu := (stored_rep c uM _ inb_S1x128_S1x128_0_0 (k0_pay16 (F := F)) []) $$ Hu
  have ei : (bodyRun.sl.Hi_1 (F := F)) = [⟨Rect.unit ![0, 0] S1x128.size inb_S1x128_S1x128_0_0, k0_pay17⟩] := rfl
  ihave Hi := (entails_of_eq (congrArg (fun L => (iM.view.loc c.tc ↦[iM.view.set]{fullShare} iM.view.writes (Elt F) iM.view.junk L)) ei)) $$ Hi
  ihave Hi := (stored_rep c iM _ inb_S1x128_S1x128_0_0 (k0_pay17 (F := F)) []) $$ Hi
  have ex : bodyRun.sl.v50 arg0 X = k0_pay18 X := by
    delta bodyRun.sl.v50
    rw [View.readAt_rep_full]
    rfl
  irw [ex]
  ihave HR : resAt c XA 0 (St.run (k0_pay18 X) XA 0) $$ [Hm Hs Hu Hi HW Hh Hc00 Hc01 Hc10 Hc11]
  · unfold resAt
    isplitl [Hm Hs Hu Hi]
    · isplitl [Hm]; · iexact Hm
      isplitl [Hs]; · iexact Hs
      isplitl [Hu]; · iexact Hu
      iexact Hi
    isplitl [HW]; · iexists _; iexact HW
    isplitl [Hh]; · iexact Hh
    isplitl [Hc00 Hc01]
    · iapply (entails_of_eq (role_zero c XA).symm)
      isplitl [Hc00]
      · iapply (flight_landed c XA 0 0 0 f00 [])
        iexact Hc00
      · iapply (flight_landed c XA 0 0 1 f01 [])
        iexact Hc01
    · iapply (entails_of_eq (role_one c XA).symm)
      isplitl [Hc10]
      · iapply (flight_landed c XA 1 1 0 f10 [])
        iexact Hc10
      · iapply (flight_landed c XA 1 1 1 f11 [])
        iexact Hc11
  sl_for (fun k _ => resAt c XA k (St.run (k0_pay18 X) XA k)) $$ [HR]
  · intro k acc
    rw [show St.run (k0_pay18 X) XA (k.val + 1) = St.step (k0_pay18 X) k (tileVec XA (Ring.bk 6 k.val)) (St.run (k0_pay18 X) XA k.val) from dif_pos k.isLt]
    exact trip c XA arg0 harg0 arg2 harg2 arg3 harg3 arg4 harg4 arg5 harg5 arg6 harg6 (k0_pay18 X) k (St.run (k0_pay18 X) XA k.val)
  · iexact HR
  iintro %acc HR
  ihave HR := (res_end c XA (k0_pay18 X)) $$ HR
  icases HR with ⟨⟨Hm, Hs, Hu, Hi⟩, ⟨%W', HW⟩, Hh0, Hh1, Hh, Hf0, Hf1⟩
  ihave Hct : (Transfers.Flight countersEmb (c : Thread nD τ) (SemLoc.dma ⟨10, by decide⟩) default 27136
      (iprop(atP c tailM (tailVec XA) ∗ tailHome c XA))) $$ [Hct]
  · iapply (tail_landed c XA f8 [])
    iexact Hct
  sl_exec
  have es' : (St.final X XA).s = k0_pay28 (k0_pay18 X) (tailVec XA) (St.run (k0_pay18 X) XA 6).m (St.run (k0_pay18 X) XA 6).s := rfl
  have em' : bodyRun.sl.v114 XA X = (St.final X XA).m := by
    delta bodyRun.sl.v114 bodyRun.sl.Hm_1_1
    rw [View.readCov_full]
    delta bodyRun.sl.v106
    delta bodyRun.sl.r_2
    rw [View.readAt_rep_full tailM.view, View.readAt_rep_full mM.view]
    rfl
  have esf : bodyRun.sl.v107 XA X = (St.final X XA).s := by
    delta bodyRun.sl.v107 bodyRun.sl.Hs_1_1
    rw [View.readCov_full, View.readAt_rep_full, View.readAt_rep_full, View.readAt_rep_full]
    rfl
  have euf : bodyRun.sl.v116 XA X = (St.final X XA).u := by
    delta bodyRun.sl.v116 bodyRun.sl.Hu_1_1
    rw [View.readCov_full]
    delta bodyRun.sl.v95
    delta bodyRun.sl.v92
    delta bodyRun.sl.r_5 bodyRun.sl.v91
    delta bodyRun.sl.r_3
    rw [View.readAt_rep_full tailM.view, View.readAt_rep_full mM.view, View.readAt_rep_full uM.view]
    rfl
  have eif : bodyRun.sl.v109 XA X = (St.final X XA).i := by
    delta bodyRun.sl.v109 bodyRun.sl.Hi_1_1
    rw [View.readCov_full]
    delta bodyRun.sl.v103
    delta bodyRun.sl.v100
    delta bodyRun.sl.v96 bodyRun.sl.v98
    delta bodyRun.sl.r bodyRun.sl.r_1 bodyRun.sl.r_4 bodyRun.sl.v97
    rw [View.readAt_rep_full tailM.view, View.readAt_rep_full mM.view, View.readAt_rep_full iM.view]
    rfl
  have e112 : bodyRun.sl.v112 XA X = k0_pay33 (St.final X XA).s := by
    delta bodyRun.sl.v112 bodyRun.sl.v108
    rw [esf]
    rfl
  have e118 : bodyRun.sl.v118 XA X = k0_pay34 (St.final X XA).s (St.final X XA).m (St.final X XA).u := by
    delta bodyRun.sl.v118
    delta bodyRun.sl.v115 bodyRun.sl.v117
    delta bodyRun.sl.v108
    rw [esf, em', euf]
    rfl
  have e4 : bodyRun.sl.H4_1 arg0 arg2 X X2 = [⟨Rect.unit ![0, 0] S1x128.size inb_S1x128_S1x128_0_0, k0_pay13 X X2⟩] := by
    delta bodyRun.sl.H4_1
    rw [View.readAt_rep_full, View.readAt_rep_full]
  ihave H4 := (entails_of_eq (congrArg (fun L => (arg4.view.loc (c : Thread nD τ) ↦[arg4.view.set]{fullShare} arg4.view.writes (Elt F) arg4.view.junk L : sProp 𝕄)) e4)) $$ H4
  ihave H3 := (stored_rep c arg3 _ _ _ _) $$ H3
  ihave H4 := (stored_rep c arg4 _ _ _ _) $$ H4
  ihave H5 := (stored_rep c arg5 _ _ _ _) $$ H5
  ihave H6 := (stored_rep c arg6 _ _ _ _) $$ H6
  sl_step
  iapply Hk
  isplitl [Hx]; · iexact Hx
  isplitl [Hwd]; · iexact Hwd
  isplitl [H3]
  · iapply (entails_of_eq (congrArg (atP c arg3) eif))
    iexact H3
  isplitl [H4]; · iexact H4
  isplitl [H5]
  · iapply (entails_of_eq (congrArg (atP c arg5) e112))
    iexact H5
  isplitl [H6]
  · iapply (entails_of_eq (congrArg (atP c arg6) e118))
    iexact H6
  isplitl [Hh0 Hh1 Hh Hct_src]
  · isplitl [Hh0]; · iexact Hh0
    isplitl [Hh1]; · iexact Hh1
    isplitl [Hh]; · iexact Hh
    iexact Hct_src
  isplitl [Hf0 Hf1 Hct_dst Hct Hm Hs Hu Hi]
  · isplitl [Hf0]; · iexact Hf0
    isplitl [Hf1]; · iexact Hf1
    isplitl [Hct_dst]; · iexists _; iexact Hct_dst
    isplitl [Hct]; · iexact Hct
    isplitl [Hm]; · iexists _; iexact Hm
    isplitl [Hs]; · iexists _; iexact Hs
    isplitl [Hu]; · iexists _; iexact Hu
    iexists _; iexact Hi
  iexists _; iexact HW

end Body

end Cert.Proof.Sampler

end
-- ==== Proof.KernelIdeal.Split.lean ====
/-
  The buffers the kernel moves data between, whole and in pieces: the transposed weights are their twelve half tiles
  and the tail rows, and the two-slot buffer is its four half slots.
-/
module

public import proofs.«01_k».proof.Proof.KernelIdeal.Body

@[expose] public section

noncomputable section

namespace Cert.Proof.Sampler

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

/-! ## The weights -/

/-- The pieces of the weights: half `h` of tile `g`, or the tail. -/
def wPiece : Option (Fin 6 × Fin 2) → Finset S100000x128.Idx
  | some p => SrcSet p.1 p.2
  | none => TailSet

theorem wPiece_disjoint : ∀ b b' : Option (Fin 6 × Fin 2), b ≠ b' → Disjoint (wPiece b) (wPiece b') := by
  intro b b' hne
  rw [Finset.disjoint_left]
  intro y hy hy'
  apply hne
  rcases b with _ | ⟨g, h⟩ <;> rcases b' with _ | ⟨g', h'⟩
  · rfl
  · exfalso
    have h1 := (mem_tail y).mp hy
    have h2 := (mem_src g' h' y).mp hy'
    have := g'.isLt; have := h'.isLt; omega
  · exfalso
    have h1 := (mem_tail y).mp hy'
    have h2 := (mem_src g h y).mp hy
    have := g.isLt; have := h.isLt; omega
  · have h1 := (mem_src g h y).mp hy
    have h2 := (mem_src g' h' y).mp hy'
    have := g.isLt; have := h.isLt; have := g'.isLt; have := h'.isLt
    have e1 : g = g' := Fin.ext (by omega)
    have e2 : h = h' := Fin.ext (by omega)
    rw [e1, e2]

theorem wPiece_cover : (Finset.univ : Finset (Option (Fin 6 × Fin 2))).biUnion wPiece = Finset.univ := by
  ext y
  simp only [Finset.mem_biUnion, Finset.mem_univ, true_and, iff_true]
  have h0 : (y 0).val < 100000 := (y 0).isLt
  by_cases ht : 98304 ≤ (y 0).val
  · exact ⟨none, (mem_tail y).mpr ht⟩
  · refine ⟨some (⟨(y 0).val / 16384, by omega⟩, ⟨(y 0).val % 16384 / 8192, by omega⟩), (mem_src _ _ y).mpr ?_⟩
    show 16384 * ((y 0).val / 16384) + 8192 * ((y 0).val % 16384 / 8192) ≤ (y 0).val ∧ (y 0).val < 16384 * ((y 0).val / 16384) + 8192 * ((y 0).val % 16384 / 8192) + 8192
    omega

theorem bigSep_pieces (Φ : Option (Fin 6 × Fin 2) → sProp 𝕄) :
    bigSep Finset.univ Φ = iprop(Φ (some (0, 0)) ∗ Φ (some (0, 1)) ∗ Φ (some (1, 0)) ∗ Φ (some (1, 1)) ∗ Φ (some (2, 0)) ∗ Φ (some (2, 1))
      ∗ Φ (some (3, 0)) ∗ Φ (some (3, 1)) ∗ Φ (some (4, 0)) ∗ Φ (some (4, 1)) ∗ Φ (some (5, 0)) ∗ Φ (some (5, 1)) ∗ Φ none) :=
  bigSep_univ_eq_bigSepL [some (0, 0), some (0, 1), some (1, 0), some (1, 1), some (2, 0), some (2, 1), some (3, 0), some (3, 1), some (4, 0), some (4, 1),
    some (5, 0), some (5, 1), none] (by decide) (by decide) Φ

theorem bigSep_later (Φ : Fin 6 → sProp 𝕄) : bigSep (Ring.homeSet 2 0) Φ = iprop(Φ 2 ∗ Φ 3 ∗ Φ 4 ∗ Φ 5) := by
  rw [show (Ring.homeSet 2 0 : Finset (Fin 6)) = insert 2 (insert 3 (insert 4 {5})) from by decide, bigSep_insert (by decide), bigSep_insert (by decide),
    bigSep_insert (by decide), bigSep_singleton]; rfl

theorem homeH_eq (c : Dev nD) (XA : S100000x128.Idx → Elt F .f32) (g : Fin 6) (h : Fin 2) :
    (homeH c XA g h : sProp 𝕄) = (((c : Thread nD τ).loc main_v0) ↦[wPiece (some (g, h))]{fullShare} XA) :=
  congrArg (fun S => (((c : Thread nD τ).loc main_v0) ↦[S]{fullShare} XA : sProp 𝕄)) (src_set g h)
theorem tailHome_eq (c : Dev nD) (XA : S100000x128.Idx → Elt F .f32) :
    (tailHome c XA : sProp 𝕄) = (((c : Thread nD τ).loc main_v0) ↦[wPiece none]{fullShare} XA) :=
  congrArg (fun S => (((c : Thread nD τ).loc main_v0) ↦[S]{fullShare} XA : sProp 𝕄)) tsrc_set

theorem weights_chain (c : Dev nD) (XA : S100000x128.Idx → Elt F .f32) :
    (((c : Thread nD τ).loc main_v0) ↦{fullShare} XA : sProp 𝕄) = iprop(homeH c XA 0 0 ∗ homeH c XA 0 1 ∗ homeH c XA 1 0 ∗ homeH c XA 1 1 ∗ homeH c XA 2 0 ∗ homeH c XA 2 1
      ∗ homeH c XA 3 0 ∗ homeH c XA 3 1 ∗ homeH c XA 4 0 ∗ homeH c XA 4 1 ∗ homeH c XA 5 0 ∗ homeH c XA 5 1 ∗ tailHome c XA) := by
  rw [Ring.pointsTo_blocks (ℓ := (c : Thread nD τ).loc main_v0) wPiece wPiece_disjoint wPiece_cover, bigSep_pieces, tailHome_eq]
  simp only [homeH_eq]

/-- The weights whole make their pieces. -/
theorem weights_split (c : Dev nD) (XA : S100000x128.Idx → Elt F .f32) :
    (((c : Thread nD τ).loc main_v0) ↦{fullShare} XA : sProp 𝕄) ⊢ weightsP c XA := by
  rw [weights_chain]
  unfold weightsP
  rw [bigSep_later]
  iintro ⟨H00, H01, H10, H11, H20, H21, H30, H31, H40, H41, H50, H51, Ht⟩
  isplitl [H00 H01]
  · isplitl [H00]; · iexact H00
    iexact H01
  isplitl [H10 H11]
  · isplitl [H10]; · iexact H10
    iexact H11
  isplitl [H20 H21 H30 H31 H40 H41 H50 H51]
  · isplitl [H20 H21]
    · isplitl [H20]; · iexact H20
      iexact H21
    isplitl [H30 H31]
    · isplitl [H30]; · iexact H30
      iexact H31
    isplitl [H40 H41]
    · isplitl [H40]; · iexact H40
      iexact H41
    isplitl [H50]; · iexact H50
    iexact H51
  iexact Ht

/-- The pieces make the weights whole. -/
theorem weights_join (c : Dev nD) (XA : S100000x128.Idx → Elt F .f32) :
    weightsP c XA ⊢ (((c : Thread nD τ).loc main_v0) ↦{fullShare} XA : sProp 𝕄) := by
  rw [weights_chain]
  unfold weightsP
  rw [bigSep_later]
  iintro ⟨⟨H00, H01⟩, ⟨H10, H11⟩, ⟨⟨H20, H21⟩, ⟨H30, H31⟩, ⟨H40, H41⟩, ⟨H50, H51⟩⟩, Ht⟩
  isplitl [H00]; · iexact H00
  isplitl [H01]; · iexact H01
  isplitl [H10]; · iexact H10
  isplitl [H11]; · iexact H11
  isplitl [H20]; · iexact H20
  isplitl [H21]; · iexact H21
  isplitl [H30]; · iexact H30
  isplitl [H31]; · iexact H31
  isplitl [H40]; · iexact H40
  isplitl [H41]; · iexact H41
  isplitl [H50]; · iexact H50
  isplitl [H51]; · iexact H51
  iexact Ht

/-! ## The two-slot buffer -/

/-- The half slots. -/
def bPiece (p : Fin 2 × Fin 2) : Finset S2x16384x128.Idx := HalfSet p.1 p.2

theorem bPiece_disjoint : ∀ b b' : Fin 2 × Fin 2, b ≠ b' → Disjoint (bPiece b) (bPiece b') := by
  rintro ⟨s, h⟩ ⟨s', h'⟩ hne
  rw [Finset.disjoint_left]
  intro y hy hy'
  apply hne
  have h1 := (mem_half s h y).mp hy
  have h2 := (mem_half s' h' y).mp hy'
  have := s.isLt; have := h.isLt; have := s'.isLt; have := h'.isLt
  have e1 : s = s' := Fin.ext (by omega)
  have e2 : h = h' := Fin.ext (by omega)
  rw [e1, e2]

theorem bPiece_cover : (Finset.univ : Finset (Fin 2 × Fin 2)).biUnion bPiece = Finset.univ := by
  ext y
  simp only [Finset.mem_biUnion, Finset.mem_univ, true_and, iff_true]
  have h0 : (y 0).val < 2 := (y 0).isLt
  have h1 : (y 1).val < 16384 := (y 1).isLt
  refine ⟨(⟨(y 0).val, h0⟩, ⟨(y 1).val / 8192, by omega⟩), (mem_half _ _ y).mpr ?_⟩
  show (y 0).val = (y 0).val ∧ 8192 * ((y 1).val / 8192) ≤ (y 1).val ∧ (y 1).val < 8192 * ((y 1).val / 8192) + 8192
  omega

theorem bigSep_halves (Φ : Fin 2 × Fin 2 → sProp 𝕄) : bigSep Finset.univ Φ = iprop(Φ (0, 0) ∗ Φ (0, 1) ∗ Φ (1, 0) ∗ Φ (1, 1)) :=
  bigSep_univ_eq_bigSepL [((0 : Fin 2), (0 : Fin 2)), (0, 1), (1, 0), (1, 1)] (by decide) (by decide) Φ

theorem halfP_eq (c : Dev nD) (s h : Fin 2) (f : S2x16384x128.Idx → Elt F .f32) :
    (halfP c s h f : sProp 𝕄) = (((c : Thread nD τ).loc cc0_scratch0) ↦[bPiece (s, h)]{fullShare} f) :=
  congrArg (fun S => (((c : Thread nD τ).loc cc0_scratch0) ↦[S]{fullShare} f : sProp 𝕄)) (half_set s h)

/-- The buffer whole makes its half slots. -/
theorem buf_split (c : Dev nD) :
    iprop(∃ f : Buf (Elt F) ((c : Thread nD τ).loc cc0_scratch0), ((c : Thread nD τ).loc cc0_scratch0) ↦{fullShare} f)
      ⊢ (iprop((∃ f, halfP c 0 0 f) ∗ (∃ f, halfP c 0 1 f) ∗ (∃ f, halfP c 1 0 f) ∗ (∃ f, halfP c 1 1 f)) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) bPiece bPiece_disjoint bPiece_cover f).trans (bigSep_halves _))) $$ H
  icases H2 with ⟨H00, H01, H10, H11⟩
  isplitl [H00]
  · iexists f; iapply (entails_of_eq (halfP_eq c 0 0 f).symm); iexact H00
  isplitl [H01]
  · iexists f; iapply (entails_of_eq (halfP_eq c 0 1 f).symm); iexact H01
  isplitl [H10]
  · iexists f; iapply (entails_of_eq (halfP_eq c 1 0 f).symm); iexact H10
  · iexists f; iapply (entails_of_eq (halfP_eq c 1 1 f).symm); iexact H11

/-- The half slots make the buffer whole. -/
theorem buf_join (c : Dev nD) :
    (iprop((∃ f, halfP c 0 0 f) ∗ (∃ f, halfP c 0 1 f) ∗ (∃ f, halfP c 1 0 f) ∗ (∃ f, halfP c 1 1 f)) : sProp 𝕄)
      ⊢ iprop(∃ f : Buf (Elt F) ((c : Thread nD τ).loc cc0_scratch0), ((c : Thread nD τ).loc cc0_scratch0) ↦{fullShare} f) := by
  iintro ⟨⟨%f00, H00⟩, ⟨%f01, H01⟩, ⟨%f10, H10⟩, ⟨%f11, H11⟩⟩
  iapply (Ring.pointsTo_blocks_join_exists (ℓ := (c : Thread nD τ).loc cc0_scratch0) bPiece bPiece_disjoint bPiece_cover f00)
  irw [bigSep_halves]
  isplitl [H00]
  · iexists f00; iapply (entails_of_eq (halfP_eq c 0 0 f00)); iexact H00
  isplitl [H01]
  · iexists f01; iapply (entails_of_eq (halfP_eq c 0 1 f01)); iexact H01
  isplitl [H10]
  · iexists f10; iapply (entails_of_eq (halfP_eq c 1 0 f10)); iexact H10
  · iexists f11; iapply (entails_of_eq (halfP_eq c 1 1 f11)); iexact H11

end Cert.Proof.Sampler

end
-- ==== Proof.KernelIdeal.Launch.lean ====
/-
  The kernel's run: every execution ends with the four result rows as the body computes them from the transposed
  features and weights, the host's last operations applied, and every semaphore at zero.
-/
module

public import proofs.«01_k».proof.Proof.KernelIdeal.Split
public import proofs.«01_k».proof.Proof.Gen.KernelIdeal.Frame
public import Idealize.ShloMosaic.Lib.Pipeline.FrameSuffixV

@[expose] public section

noncomputable section

namespace Cert.Proof.Sampler

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UU nD τ) ℕ

variable (m : (ℓ : Loc nD τ sig) → Buf (Elt F) ℓ) (ρ : Dev nD → PrngReg)

/-! ## The kernel's own semaphores -/

/-- The four half slots' cells and the tail's. -/
abbrev osem : Fin 5 → SemLoc sig := fun k => match k with
  | 0 => .dma (cell 0 0).sem
  | 1 => .dma (cell 0 1).sem
  | 2 => .dma (cell 1 0).sem
  | 3 => .dma (cell 1 1).sem
  | 4 => .dma cc0_scratch7.sem
theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp 𝕄)
    = iprop(cellP c 0 0 ∗ cellP c 0 1 ∗ cellP c 1 0 ∗ cellP c 1 1 ∗ tailCell c) :=
  bigSep_univ_eq_bigSepL [(0 : Fin 5), 1, 2, 3, 4] (by decide) (by decide) _

/-! ## What the region finds -/

/-- The transposed weights at the region's entry. -/
abbrev XA (c : Dev nD) : S100000x128.Idx → Elt F .f32 := V m c main_v0
/-- The transposed features. -/
abbrev XT (c : Dev nD) (t : Fin cfg0.N) : Vec F S128x128 .f32 := iblk m c 0 t
/-- The small weights. -/
abbrev XD (c : Dev nD) (t : Fin cfg0.N) : Vec F S128x1 .f32 := iblk m c 1 t

/-- The region's invariant: the weights in pieces, the body's own buffers and cells free. -/
def Φ (c : Dev nD) : sProp 𝕄 := iprop(weightsP c (XA m c) ∗ scratchP c)

abbrev st (t : Fin cfg0.N) (w : Fin cfg0.W) := (cfg0.win w).stage (cfg0.slots t w)

/-- The pipeline's data: the arrays as the region finds them, each result row as the body leaves it. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => (St.final (XT m c t) (XA m c)).i
    | ⟨3, _⟩ => k0_pay13 (XT m c t) (XD m c t)
    | ⟨4, _⟩ => k0_pay33 (St.final (XT m c t) (XA m c)).s
    | ⟨5, _⟩ => k0_pay34 (St.final (XT m c t) (XA m c)).s (St.final (XT m c t) (XA m c)).m (St.final (XT m c t) (XA m c)).u
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = (St.final (XT m c t) (XA m c)).i := by dsimp only [dats]
theorem after_w3 (c : Dev nD) (t : Fin cfg0.N) : (dats m 0 c).after 3 t = k0_pay13 (XT m c t) (XD m c t) := by dsimp only [dats]
theorem after_w4 (c : Dev nD) (t : Fin cfg0.N) : (dats m 0 c).after 4 t = k0_pay33 (St.final (XT m c t) (XA m c)).s := by dsimp only [dats]
theorem after_w5 (c : Dev nD) (t : Fin cfg0.N) : (dats m 0 c).after 5 t = k0_pay34 (St.final (XT m c t) (XA m c)).s (St.final (XT m c t) (XA m c)).m (St.final (XT m c t) (XA m c)).u := by
  dsimp only [dats]

/-! ## The body at the grid's point -/

theorem defs_tc : (defs₀ (F := F)) .tc cfg0.body
    = fun a => bodyG (win0_0.stage (a.2 0)) (hstage0_0 0) (win0_1.stage (a.2 1)) (hstage0_1 0) (win0_2.stage (a.2 2)) (hstage0_2 0)
        (win0_3.stage (a.2 3)) (hstage0_3 0) (win0_4.stage (a.2 4)) (hstage0_4 0) (win0_5.stage (a.2 5)) (hstage0_5 0) := rfl
theorem body_eq (t : Fin cfg0.N) : (defs₀ (F := F)) .tc cfg0.body (cfg0.bodyArgs t (cfg0.slots t))
    = bodyG (st t 0) (hstage0_0 0) (st t 1) (hstage0_1 0) (st t 2) (hstage0_2 0) (st t 3) (hstage0_3 0) (st t 4) (hstage0_4 0) (st t 5) (hstage0_5 0) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, after_w0, after_w1, after_w2, after_w3, after_w4, after_w5]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨Hw, Hs⟩, ⟨%W, -, HW⟩, ⟨%d0, %g0, %hg0, H0⟩, ⟨%d1, %g1, %hg1, H1⟩, ⟨%d2, %g2, -, H2⟩, ⟨%d3, %g3, -, H3⟩, ⟨%d4, %g4, -, H4⟩, ⟨%d5, %g5, -, H5⟩⟩
  ihave H0 := (pointsTo_rep_entails (c : Thread nD τ) (st t 0) g0 fullShare) $$ H0
  ihave H1 := (pointsTo_rep_entails (c : Thread nD τ) (st t 1) g1 fullShare) $$ H1
  rw [hg0, hg1]
  sl_rw [body_eq t]
  iapply (bodyRun c (XA m c) (st t 0) (hstage0_0 0) (st t 1) (hstage0_1 0) (st t 2) (hstage0_2 0) (st t 3) (hstage0_3 0) (st t 4) (hstage0_4 0) (st t 5) (hstage0_5 0)
    (XT m c t) (XD m c t) W)
  isplitl [H0 H1 H2 H3 H4 H5 Hw Hs HW]
  · isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [Hw]; · iexact Hw
    isplitl [Hs]; · iexact Hs
    iexact HW
  · iintro ⟨H0, H1, H2, H3, H4, H5, Hw, Hs, ⟨%W', HW⟩⟩
    isplitl [Hw Hs]
    · isplitl [Hw]; · iexact Hw
      iexact Hs
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    iexists _; isplitr; · ipureintro; exact View.read_rep _ _
    iexact H5

/-! ## The run -/

set_option maxHeartbeats 800000 in
theorem hmain_own : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- A whole buffer at anything, either way it is written. -/
theorem someP_whole (c : Dev nD) {sp : Space} {s : Shape} {e : EltTy} (M : Memref sig .tc sp s e) (hM : M.IsWhole) :
    (someP c M : sProp 𝕄) = iprop(∃ f : Buf (Elt F) (M.view.loc (c : Thread nD τ)), (M.view.loc (c : Thread nD τ)) ↦{fullShare} f) := by
  rw [someP, hM.set_eq_univ]

/-- The invariant from what the launch hands, -/
theorem enter (c : Dev nD) : Pipeline.ΦDRV osem spec0 {main_v0} ∅ (V m) (V m) c ⊢ (Φ m c : sProp 𝕄) := by
  unfold Pipeline.ΦDRV
  rw [scopedRest0_eq, ownSems0_eq, bigSep_singleton]
  unfold Φ scratchP
  rw [someP_whole c tailM (Memref.isWhole_whole _), someP_whole c mM (Memref.isWhole_whole _), someP_whole c sM (Memref.isWhole_whole _),
    someP_whole c uM (Memref.isWhole_whole _), someP_whole c iM (Memref.isWhole_whole _)]
  iintro ⟨⟨Hb, Ht, Hm, Hs, Hu, Hi⟩, ⟨Hc00, Hc01, Hc10, Hc11, Hct⟩, Hw, -⟩
  ihave Hb := (buf_split c) $$ Hb
  icases Hb with ⟨H00, H01, H10, H11⟩
  isplitl [Hw]
  · iapply (weights_split c (XA m c)); iexact Hw
  isplitl [H00 H01 Hc00 Hc01]
  · isplitl [H00]; · iexact H00
    isplitl [H01]; · iexact H01
    isplitl [Hc00]; · iexact Hc00
    iexact Hc01
  isplitl [H10 H11 Hc10 Hc11]
  · isplitl [H10]; · iexact H10
    isplitl [H11]; · iexact H11
    isplitl [Hc10]; · iexact Hc10
    iexact Hc11
  isplitl [Ht]; · iexact Ht
  isplitl [Hct]; · iexact Hct
  isplitl [Hm]; · iexact Hm
  isplitl [Hs]; · iexact Hs
  isplitl [Hu]; · iexact Hu
  iexact Hi

/-- and back. -/
theorem leave (c : Dev nD) : (Φ m c : sProp 𝕄) ⊢ Pipeline.ΦDRV osem spec0 {main_v0} ∅ (V m) (V m) c := by
  unfold Pipeline.ΦDRV
  rw [scopedRest0_eq, ownSems0_eq, bigSep_singleton]
  unfold Φ scratchP
  rw [someP_whole c tailM (Memref.isWhole_whole _), someP_whole c mM (Memref.isWhole_whole _), someP_whole c sM (Memref.isWhole_whole _),
    someP_whole c uM (Memref.isWhole_whole _), someP_whole c iM (Memref.isWhole_whole _)]
  iintro ⟨Hw, ⟨H00, H01, Hc00, Hc01⟩, ⟨H10, H11, Hc10, Hc11⟩, Ht, Hct, Hm, Hs, Hu, Hi⟩
  ihave Hb := (buf_join c) $$ [H00 H01 H10 H11]
  · isplitl [H00]; · iexact H00
    isplitl [H01]; · iexact H01
    isplitl [H10]; · iexact H10
    iexact H11
  isplitl [Hb Ht Hm Hs Hu Hi]
  · isplitl [Hb]; · iexact Hb
    isplitl [Ht]; · iexact Ht
    isplitl [Hm]; · iexact Hm
    isplitl [Hs]; · iexact Hs
    isplitl [Hu]; · iexact Hu
    iexact Hi
  isplitl [Hc00 Hc01 Hc10 Hc11 Hct]
  · isplitl [Hc00]; · iexact Hc00
    isplitl [Hc01]; · iexact Hc01
    isplitl [Hc10]; · iexact Hc10
    isplitl [Hc11]; · iexact Hc11
    iexact Hct
  isplitl [Hw]
  · iapply (weights_join c (XA m c)); iexact Hw
  rw [bigSep_empty]
  iempintro

/-- What the kernel's executions end with. -/
def Ends (r : PUnit × MemSt nD τ sig (Elt F)) : Prop :=
  (∀ c : Dev nD, (∀ w : Fin cfg0.W, r.2.mem ((cfg0.win w).arr.view.loc (c : Thread nD τ)) = (dats m 0 c).arrAt w cfg0.N)
    ∧ ∀ b ∈ Pipeline.restRefs sig spec0, r.2.mem ((c : Thread nD τ).loc b)
        = StableHlo.after [hostOps1].flatten (Pipeline.withArrays spec0 c (V0 m c) fun w => (dats m 0 c).arrAt w cfg0.N) (Proc.devRef .tc b))
  ∧ r.2.sem = fun _ => 0

theorem run_main : θ_run defs (onTc (τ := τ) (main (F := F))) (s₀ m ρ) (Ends m) :=
  Pipeline.θ_run_frame_dmaR_aroundV cfgs (dats m) 0 launch0 osem defs₀ 𝒱₀ ownSemFacts {main_v0} ∅
    (fun b hb => by rw [Finset.mem_singleton] at hb; subst hb; exact Pipeline.mem_restRefs_of main_v0 (by decide) (by decide)) (Finset.empty_subset _) m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps) (G := V m)
    (hmain := hmain_own m) (hA := fun _ _ => rfl) (hin := enter m) (hout := leave m) (Q' := Ends m)
    (hQ' := fun r h => by
      refine ⟨fun c => ⟨(h.1 c).1, fun b hb => ?_⟩, h.2⟩
      rw [(h.1 c).2 b hb, show Pipeline.withR (V0 m c) ∅ c (V m c) = V0 m c from
        funext fun r => dif_neg fun ⟨b, hb, _⟩ => absurd hb (Finset.notMem_empty b)])

end Cert.Proof.Sampler

end
-- ==== Proof.KernelIdeal.Frame.lean ====
/-
  The kernel leaves its arguments as they were and every semaphore at zero, over the extended reals and over the
  machine's floats.
-/
module

public import proofs.«01_k».proof.Proof.KernelIdeal.Launch

@[expose] public section

noncomputable section

namespace Cert.Proof.Sampler

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F] [Named F]
variable (m : (ℓ : Loc nD τ sig) → Buf (Elt F) ℓ) (ρ : Dev nD → PrngReg)

/-- A buffer that no host operation writes and no window stages ends as launched. -/
theorem kept (c : Dev nD) (b : Ref sig .tc) (h0 : ∀ op ∈ (hostOps0 : List (HloOp τ sig (Elt F))), Proc.devRef .tc b ∉ op.writes)
    (h1 : ∀ op ∈ (hostOps1 : List (HloOp τ sig (Elt F))), Proc.devRef .tc b ∉ op.writes) (hw : ∀ w, Pipeline.arrRef spec0 w ≠ b) :
    StableHlo.after [hostOps1].flatten (Pipeline.withArrays spec0 c (V0 m c) fun w => (dats m 0 c).arrAt w cfg0.N) (Proc.devRef .tc b) = m ((c : Thread nD τ).loc b) := by
  rw [StableHlo.after_of_forall_not_mem (b := Proc.devRef .tc b) _ _ (by simpa using h1), Pipeline.withArrays_of_ne _ c (V0 m c) _ b hw]
  exact StableHlo.after_of_forall_not_mem (b := Proc.devRef .tc b) _ _ (by simpa using h0)

theorem writes0 (b : Ref sig .tc) (h : main_v0 ≠ b ∧ main_v1 ≠ b) : ∀ op ∈ (hostOps0 : List (HloOp τ sig (Elt F))), Proc.devRef .tc b ∉ op.writes := by
  intro op hop
  simp only [hostOps0, List.mem_cons, List.mem_nil_iff, or_false] at hop
  rcases hop with rfl | rfl <;> simp only [StableHlo.unary_writes, Finset.mem_singleton]
  · exact StableHlo.devRef_ne_of_ne h.1.symm
  · exact StableHlo.devRef_ne_of_ne h.2.symm
theorem writes1 (b : Ref sig .tc) (h : main_v3 ≠ b ∧ main_v4 ≠ b ∧ main_v5 ≠ b ∧ main_v6 ≠ b) :
    ∀ op ∈ (hostOps1 : List (HloOp τ sig (Elt F))), Proc.devRef .tc b ∉ op.writes := by
  intro op hop
  simp only [hostOps1, List.mem_cons, List.mem_nil_iff, or_false] at hop
  rcases hop with rfl | rfl | rfl | rfl <;> simp only [StableHlo.unary_writes, StableHlo.binary_writes, StableHlo.reshape_writes, Finset.mem_singleton]
  · exact StableHlo.devRef_ne_of_ne h.1.symm
  · exact StableHlo.devRef_ne_of_ne h.2.1.symm
  · exact StableHlo.devRef_ne_of_ne h.2.2.1.symm
  · exact StableHlo.devRef_ne_of_ne h.2.2.2.symm

/-- The arguments on core `c` are as launched. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

theorem kept_of_ends {r : PUnit × MemSt nD τ sig (Elt F)} (h : Ends m r) (c : Dev nD) : Kept m r c := by
  refine ⟨?_, ?_, ?_, ?_, ?_⟩
  · exact ((h.1 c).2 main_arg0 (Pipeline.mem_restRefs_of main_arg0 (by decide) (by decide))).trans (kept m c main_arg0 (writes0 _ (by decide)) (writes1 _ (by decide)) (by decide))
  · exact ((h.1 c).2 main_arg1 (Pipeline.mem_restRefs_of main_arg1 (by decide) (by decide))).trans (kept m c main_arg1 (writes0 _ (by decide)) (writes1 _ (by decide)) (by decide))
  · exact ((h.1 c).2 main_arg2 (Pipeline.mem_restRefs_of main_arg2 (by decide) (by decide))).trans (kept m c main_arg2 (writes0 _ (by decide)) (writes1 _ (by decide)) (by decide))
  · exact ((h.1 c).1 1).trans (((dats m 0 c).arrAt_in 1 rfl _).trans (V_main_arg3 m c))
  · exact ((h.1 c).2 main_arg4 (Pipeline.mem_restRefs_of main_arg4 (by decide) (by decide))).trans (kept m c main_arg4 (writes0 _ (by decide)) (writes1 _ (by decide)) (by decide))

/-- The frame, at any float values. -/
theorem frame_any : θ_run defs (onTc (τ := τ) (main (F := F))) ⟨m, fun _ => 0, ρ⟩ (fun r => (∀ c : Dev nD, Kept m r c) ∧ r.2.sem = fun _ => 0) :=
  (θ_run defs _ _).mono (fun _ h => ⟨kept_of_ends m h, h.2⟩) (run_main m ρ)

end Cert.Proof.Sampler

end
-- ==== Proof.Kernel.Frame.lean ====
/-
  The kernel as printed over the machine's floats: its frame. The program is the idealized one with the mask read as
  the bits it is printed with, so the frame proved at any float values is its frame.
-/
module

public import proofs.«01_k».proof.Proof.KernelIdeal.Frame
public import proofs.«01_k».proof.Kernel
public import proofs.«01_k».proof.Proof.Gen.Kernel
public import Idealize.ShloMosaic.PureOps.BitExact

@[expose] public section

noncomputable section

namespace Cert.Proof.Printed

open Idealize.ShloMosaic Idealize.ShloMosaic.TcCoe
open Idealize.SL.Sem

/-- Over the machine's floats a named constant is the bits it stands beside. -/
local instance named : Idealize.ShloMosaic.Named Bits := ⟨fun _ _ {φ} bits => Scalar.ofBits φ bits⟩

/-- The two kernel functions are one program. -/
theorem body_eq : @Cert.Kernel.cc0__body Bits _ _ = @Cert.KernelIdeal.cc0__body Bits _ _ _ := rfl

/-- So are the two body tables, -/
theorem defs₀_eq : Cert.Kernel.defs₀ (F := Bits) = Cert.KernelIdeal.defs₀ (F := Bits) := by
  refine congrArg Defs.onTc (funext fun b => funext fun x => ?_)
  obtain ⟨_ | n, h⟩ := b
  · obtain ⟨t, s⟩ := x
    rfl
  · exact absurd h (Nat.not_lt.2 (Nat.le_add_left _ _))

/-- and the two launches' tables. -/
theorem defs_eq : Cert.Kernel.defs (F := Bits) = Cert.KernelIdeal.defs (F := Bits) :=
  congrArg (Pipeline.defs _) defs₀_eq

/-- The frame of the kernel as printed. -/
theorem frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩
      (fun r => (∀ c : Dev Cert.Kernel.nD, Cert.Proof.Sampler.Kept (F := Bits) m r c) ∧ r.2.sem = fun _ => 0) := by
  rw [defs_eq]
  exact Cert.Proof.Sampler.frame_any (F := Bits) m g

end Cert.Proof.Printed

end
-- ==== Proof.Reference.Frame.lean ====
/-
  The reference leaves its arguments as they were and every semaphore at zero.
-/
module

public import proofs.«01_k».proof.Defs
public import proofs.«01_k».proof.Proof.Gen.ReferenceIdeal
public import Idealize.ShloMosaic.Lib.Claim
public import Idealize.ShloMosaic.Lib.QuiescentFlight

@[expose] public section

noncomputable section

namespace Cert.Proof.Plain

open Cert.ReferenceIdeal
open Idealize.ShloMosaic Idealize.ShloMosaic.TcCoe Idealize.ShloMosaic.Tactic
open Idealize.SL Idealize.SL.Sem

/-- The reference's frame. -/
theorem frame : Cert.quiescent_ReferenceIdeal := by
  intro m g _
  hlo_run
  · exact fun _ => ⟨trivial, trivial, trivial, trivial, trivial⟩
  · exact sem_eq_zero_of_no_sems (by decide) r.2

end Cert.Proof.Plain

end
-- ==== Proof.Reference.Terms.lean ====
/-
  The reference's results as terms over its arguments, stage by stage as the program computes them, and its run.
-/
module

public import proofs.«01_k».proof.Proof.Gen.ReferenceIdeal
public import proofs.«01_k».proof.Defs
public import Idealize.ShloMosaic.Lib.Claim

@[expose] public section

noncomputable section

namespace Cert.Proof.Plain

open Cert.ReferenceIdeal Cert.ReferenceIdeal.Gen
open Idealize.ShloMosaic Idealize.ShloMosaic.TcCoe Idealize.SL.Sem

/-- The logits. -/
def logits (x : FVec Ideal S128x128 .f32) (W : FVec Ideal S128x100000 .f32) (b : FVec Ideal S100000 .f32) : FVec Ideal S128x100000 .f32 :=
  addf (Host.dotGeneral dot_S128x128_S128x100000_S128x100000_1_0_0_1_n_n none x W)
    (broadcastInDim S128x100000 ![0, 1] bcast_S1x100000_S128x100000_0_1 (broadcastInDim S1x100000 ![1] bcast_S100000_S1x100000_1 b))

/-- The predicted distance. -/
def distance (x : FVec Ideal S128x128 .f32) (w : FVec Ideal S128x1 .f32) (b : FVec Ideal S1 .f32) : FVec Ideal S128x1 .f32 :=
  addf (Host.dotGeneral dot_S128x128_S128x1_S128x1_1_0_0_1_n_n none x w)
    (broadcastInDim S128x1 ![0, 1] bcast_S1x1_S128x1_0_1 (broadcastInDim S1x1 ![1] bcast_S1_S1x1_1 b))

/-- Each row's largest logit. -/
def rowMax (A : FVec Ideal S128x100000 .f32) : FVec Ideal S128 .f32 :=
  maximumf (broadcastInDim S128 ![] bcast_S_S128 (constant S_ .f32 0xFF800000#32))
    (Host.reduce FloatOps.maximumf A (constant S_ .f32 0xFF800000#32) reducesTo_S128x100000_S128_d1 h_S_)

/-- A number per row at each of the row's places. -/
def spread (v : FVec Ideal S128x1 .f32) : FVec Ideal S128x100000 .f32 := broadcastInDim S128x100000 ![0, 1] bcast_S128x1_S128x100000_0_1 v
/-- A number per row as a column. -/
def column {α : Type} (v : S128.Idx → α) : S128x1.Idx → α := broadcastInDim S128x1 ![0] bcast_S128_S128x1_0 v

/-- The logits below each row's largest. -/
def shifted (A : FVec Ideal S128x100000 .f32) : FVec Ideal S128x100000 .f32 := subf A (spread (column (rowMax A)))

/-- A row's sum. -/
def rowSum (A : FVec Ideal S128x100000 .f32) : FVec Ideal S128 .f32 :=
  Host.reduceAdd A (constant S_ .f32 0x00000000#32) reducesTo_S128x100000_S128_d1 h_S_

/-- The logarithms of the probabilities. -/
def logProbs (A : FVec Ideal S128x100000 .f32) : FVec Ideal S128x100000 .f32 :=
  subf (shifted A) (spread (Host.log (column (rowSum (Host.exp (shifted A))))))

/-- Each row's entropy. -/
def entropy (P : FVec Ideal S128x100000 .f32) : FVec Ideal S128 .f32 := Host.negf (rowSum (mulf (Host.exp P) P))

/-- The first place of each row's largest logit. -/
def best (A : FVec Ideal S128x100000 .f32) : IVec S128 32 := fun j =>
  (Host.argReduce reducer_argmax_f32_i32 A (iotaInDim S128x100000 32 1) (constant S_ .f32 0xFF800000#32) (constantI S_ 32 0#32)
    reducesTo_S128x100000_S128_d1 h_S_ j).2

/-- The places with a negative one counted from the end, a third axis added. -/
def places (i : IVec S128x1 32) : IVec S128x1x1 32 :=
  shapeCast S128x1x1 (select (cmpi .slt i (broadcastInDim S128x1 ![] bcast_S_S128x1 (constantI S_ 32 0#32)))
    (addi i (broadcastInDim S128x1 ![] bcast_S_S128x1 (constantI S_ 32 100000#32))) i) shapeCasts_S128x1_S128x1x1

/-- Whether a place lies in the row. -/
def inside (p : IVec S128x1x1 32) : IVec S128x1 1 :=
  Host.reduce IntOp.andi
    (andi (cmpi .sge p (broadcastInDim S128x1x1 ![] bcast_S_S128x1x1 (constantI S_ 32 0#32)))
      (cmpi .sle p (broadcastInDim S128x1x1 ![0, 1, 2] bcast_S1x1x1_S128x1x1_0_1_2 (broadcastInDim S1x1x1 ![2] bcast_S1_S1x1x1_2 (constantI S1 32 99999#32)))))
    (constantI S_ 1 1#1) reducesTo_S128x1x1_S128x1_d2 h_S_

/-- Each row's entry at its place. -/
def taken (P : FVec Ideal S128x100000 .f32) (i : IVec S128x1 32) : FVec Ideal S128x1 .f32 :=
  select (inside (places i)) (Host.gather gather_S128x100000_S128x1x1_S128x1_n_1_0_0_1_2_11 P (places i))
    (broadcastInDim S128x1 ![] bcast_S_S128x1 (constant S_ .f32 0x7FC00000#32))

/-- The two columns of the message: the place and the distance. -/
def message (i : IVec S128 32) (d : FVec Ideal S128x1 .f32) : FVec Ideal S128x2 .f32 :=
  concatenate S128x2 1 [⟨S128x1, column (sitofp (F := Ideal) .f32 i)⟩, ⟨S128x1, column (shapeCast S128 d shapeCasts_S128x1_S128)⟩]
    concatenates_S128x1_S128x1_S128x2_d1

variable (m : (ℓ : Loc nD τ sig) → Buf (Elt Ideal) ℓ) (ρ : Dev nD → PrngReg)

/-- The logits of what core `c` holds. -/
abbrev logitsOf (c : Dev nD) : FVec Ideal S128x100000 .f32 :=
  logits (m ((c : Thread nD τ).loc main_arg0)) (m ((c : Thread nD τ).loc main_arg1)) (m ((c : Thread nD τ).loc main_arg2))

/-- The reference's run: its three results as those terms, its arguments kept. -/
theorem run : θ_run defs (onTc (τ := τ) (main (F := Ideal))) ⟨m, fun _ => 0, ρ⟩ (fun r => ∀ c : Dev nD,
    r.2.mem ((c : Thread nD τ).loc main_v21) = message (best (logitsOf m c))
        (distance (m ((c : Thread nD τ).loc main_arg0)) (m ((c : Thread nD τ).loc main_arg3)) (m ((c : Thread nD τ).loc main_arg4)))
    ∧ r.2.mem ((c : Thread nD τ).loc main_v16) = shapeCast S128 (taken (logProbs (logitsOf m c)) (column (best (logitsOf m c)))) shapeCasts_S128x1_S128
    ∧ r.2.mem ((c : Thread nD τ).loc main_v12) = entropy (logProbs (logitsOf m c))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) := by
  hlo_run
  all_goals
    try simp only [StableHlo.TRef.ofBuf_toBuf]
    try simp -implicitDefEqProofs only [StableHlo.TRef.toBuf, StableHlo.TRef.ofBuf, cast_eq]
    rfl

end Cert.Proof.Plain
-- ==== Proof.Reference.Rows.lean ====
/-
  The reference's stages read at an index over the extended reals: the logits, each row's largest, the logarithms of
  the probabilities, the entropy and the distance.
-/
module

public import proofs.«01_k».proof.Proof.Reference.Terms
public import Idealize.ShloMosaic.Lib.StackMember
public import Idealize.ShloMosaic.Lib.IdealHost

@[expose] public section

noncomputable section

namespace Cert.Proof.Plain

open Cert.ReferenceIdeal Cert.ReferenceIdeal.Gen
open Idealize.ShloMosaic Idealize.ShloMosaic.ValueIdx

/-- The word of minus infinity. -/
theorem word_bot : Ideal.ofBits .f32 0xFF800000#32 = ⊥ := by simp [Ideal.ofBits, Ideal.ieee]

section Generic
variable {R : ℕ} (A : FVec Ideal ⟨2, ![128, R]⟩ .f32)

theorem lift_col (h : Shape.Reduces ⟨2, ![128, R]⟩ [1] S128) (b : Fin 128) (v : Fin R) : h.lift (ix1 b) v = ix2 b v := by
  funext c
  match c with
  | ⟨0, _⟩ => exact Fin.ext rfl
  | ⟨1, _⟩ => exact Fin.ext rfl

/-- The largest of a row, as the host's reduction takes it. -/
theorem reduce_max (h' : Shape.ReducesTo ⟨2, ![128, R]⟩ [1] S128) (h : Shape.Reduces ⟨2, ![128, R]⟩ [1] S128) (init : FVec Ideal S_ .f32) (hi : ∀ i, init i = ⊥) (hu)
    (b : Fin 128) : Host.reduce FloatOps.maximumf A init h' hu (ix1 b) = Finset.univ.sup fun v : Fin R => A (ix2 b v) := by
  refine (Host.reduce_eq_fold_single (FloatOps.maximumf (F := Ideal) (φ := .f32)) A init h' h hu (ix1 b)).trans ?_
  have e : (A ∘ h.lift (ix1 b)) = fun v : Fin R => A (ix2 b v) := funext fun v => congrArg A (lift_col h b v)
  rw [e, hi]
  rfl

/-- The sum of a row, as the host's reduction takes it. -/
theorem reduce_sum (h' : Shape.ReducesTo ⟨2, ![128, R]⟩ [1] S128) (h : Shape.Reduces ⟨2, ![128, R]⟩ [1] S128) (init : FVec Ideal S_ .f32) (hi : ∀ i, init i = 0) (hu)
    (b : Fin 128) : Host.reduceAdd A init h' hu (ix1 b) = ∑ v : Fin R, A (ix2 b v) := by
  refine (Ideal.hostReduceAdd_single h' h A _ (ix1 b)).trans ?_
  rw [hi, zero_add]
  exact Finset.sum_congr rfl fun v _ => congrArg A (lift_col h b v)

end Generic

theorem reducesRow : S128x100000.Reduces [1] S128 := by decide

theorem bigDot : dot_S128x128_S128x100000_S128x100000_1_0_0_1_n_n = DotDims.plain 128 128 100000 := rfl
theorem smallDot : dot_S128x128_S128x1_S128x1_1_0_0_1_n_n = DotDims.plain 128 128 1 := rfl

theorem column_at {α : Type} (v : S128.Idx → α) (b : Fin 128) : column v (ix2 b (0 : Fin 1)) = v (ix1 b) := by
  unfold column broadcastInDim
  refine congrArg v (funext fun a => ?_)
  match a with
  | ⟨0, _⟩ => exact Fin.ext rfl

theorem spread_at (v : FVec Ideal S128x1 .f32) (b : Fin 128) (k : Fin 100000) : spread v (ix2 b k) = v (ix2 b (0 : Fin 1)) := by
  unfold spread broadcastInDim
  refine congrArg v (funext fun a => ?_)
  match a with
  | ⟨0, _⟩ => exact Fin.ext rfl
  | ⟨1, _⟩ => exact Fin.ext rfl

/-- With zero bias a logit is the row's product with the column of weights. -/
theorem logits_at (x : FVec Ideal S128x128 .f32) (W : FVec Ideal S128x100000 .f32) (bias : FVec Ideal S100000 .f32) (h0 : ∀ i, bias i = 0)
    (b : Fin 128) (v : Fin 100000) : logits x W bias (ix2 b v) = ∑ d : Fin 128, x (ix2 b d) * W (ix2 d v) := by
  unfold logits
  rw [addf_apply, bigDot, StackMember.dotGeneral_plain_apply]
  unfold broadcastInDim
  rw [h0, add_zero]

theorem distance_at (x : FVec Ideal S128x128 .f32) (w : FVec Ideal S128x1 .f32) (bias : FVec Ideal S1 .f32) (h0 : ∀ i, bias i = 0)
    (b : Fin 128) : distance x w bias (ix2 b (0 : Fin 1)) = ∑ d : Fin 128, x (ix2 b d) * w (ix2 d (0 : Fin 1)) := by
  unfold distance
  rw [addf_apply, smallDot, StackMember.dotGeneral_plain_apply]
  unfold broadcastInDim
  rw [h0, add_zero]

variable (A P : FVec Ideal S128x100000 .f32) (b : Fin 128) (v : Fin 100000)

theorem rowMax_at : rowMax A (ix1 b) = Finset.univ.sup fun v : Fin 100000 => A (ix2 b v) := by
  unfold rowMax
  rw [maximumf_apply, reduce_max A _ reducesRow (constant S_ .f32 0xFF800000#32) (fun _ => word_bot)]
  unfold broadcastInDim
  refine (congrArg (max · _) word_bot).trans ?_
  exact max_eq_right bot_le

theorem rowSum_at : rowSum A (ix1 b) = ∑ v : Fin 100000, A (ix2 b v) := by
  unfold rowSum
  exact reduce_sum A _ reducesRow _ (fun _ => Ideal.ofBits_zero_f32) _ b

theorem hostExp_at {s : Shape} (B : FVec Ideal s .f32) (i : s.Idx) : Host.exp B i = Ideal.exp (B i) := rfl
theorem hostLog_at {s : Shape} (B : FVec Ideal s .f32) (i : s.Idx) : Host.log B i = Ideal.log (B i) := rfl
theorem hostNeg_at {s : Shape} (B : FVec Ideal s .f32) (i : s.Idx) : Host.negf B i = -B i := rfl

theorem shifted_at : shifted A (ix2 b v) = A (ix2 b v) - Finset.univ.sup fun v : Fin 100000 => A (ix2 b v) := by
  unfold shifted
  rw [subf_apply, spread_at, column_at, rowMax_at]

/-- The logarithm of a probability. -/
theorem logProbs_at : logProbs A (ix2 b v) = (A (ix2 b v) - Finset.univ.sup fun v : Fin 100000 => A (ix2 b v))
    - Ideal.log (∑ w : Fin 100000, Ideal.exp (A (ix2 b w) - Finset.univ.sup fun v : Fin 100000 => A (ix2 b v))) := by
  unfold logProbs
  rw [subf_apply, shifted_at, spread_at, hostLog_at, column_at, rowSum_at]
  simp only [hostExp_at, shifted_at]

/-- A row's entropy. -/
theorem entropy_at : entropy P (ix1 b) = -∑ v : Fin 100000, Ideal.exp (P (ix2 b v)) * P (ix2 b v) := by
  unfold entropy
  rw [hostNeg_at, rowSum_at]
  simp only [mulf_apply, hostExp_at]

end Cert.Proof.Plain
-- ==== Proof.Precondition.lean ====
/-
  What the precondition says over the extended reals: each row's largest logit is a real number and both biases are
  zero.
-/
module

public import proofs.«01_k».proof.Defs
public import proofs.«01_k».proof.Proof.Reference.Rows

@[expose] public section

noncomputable section

namespace Cert.Proof.Unbiased

open Cert.Pre_finite_unbiased
open Idealize.ShloMosaic Idealize.ShloMosaic.ValueIdx

/-- The precondition's shape conditions. -/
theorem facts : Facts where
  reducesTo_S128x100000_S128_d1 := by decide
  h_S_ := by decide
  bcast_S_S128 := by decide
  bcast_S_S100000 := by decide
  bcast_S_S1 := by decide
  dot_S128x128_S128x100000_S128x100000_1_0_0_1_n_n_wf := by decide

/-- The word of infinity. -/
theorem word_top : Ideal.ofBits .f32 0x7F800000#32 = ⊤ := by simp [Ideal.ofBits, Ideal.ieee]

/-- A value whose size is below infinity is a real number. -/
theorem real_of_abs (z : EReal) (h : max z (-z) < ⊤) : ∃ μ : ℝ, z = (μ : EReal) := by
  induction z using EReal.rec with
  | bot => simp at h
  | top => simp at h
  | coe a => exact ⟨a, rfl⟩

theorem of_ofBool {p : Prop} [Decidable p] (h : BitVec.ofBool (decide p) = 1#1) : p := by
  by_contra hp
  rw [decide_eq_false hp] at h
  exact absurd h (by decide)

variable [Facts] (x : FVec Ideal S128x128 .f32) (W : FVec Ideal S128x100000 .f32) (u : FVec Ideal S100000 .f32) (w : FVec Ideal S128x1 .f32)
  (s : FVec Ideal S1 .f32)

theorem dot_plain : dot_S128x128_S128x100000_S128x100000_1_0_0_1_n_n = DotDims.plain 128 128 100000 := rfl

theorem real_at (R : FVec Ideal S128 .f32) (i : S128.Idx)
    (h : cmpf .olt (Host.absf R) (broadcastInDim S128 ![] Facts.bcast_S_S128 (constant S_ .f32 0x7F800000#32)) i = 1#1) : ∃ μ : ℝ, R i = (μ : EReal) := by
  rw [cmpf_apply] at h
  have k : max (R i) (-R i) < Ideal.ofBits .f32 0x7F800000#32 := of_ofBool h
  rw [word_top] at k
  exact real_of_abs _ k

/-- Each row's largest logit is a real number. -/
theorem largest_real (h : (fn (F := Ideal) x W u w s).1 = fun _ => 1#1) (b : Fin 128) :
    ∃ μ : ℝ, Finset.univ.sup (fun v : Fin 100000 => ∑ d : Fin 128, x (ix2 b d) * W (ix2 d v)) = (μ : EReal) := by
  have k := congrFun h (ix1 b)
  unfold fn at k
  dsimp only at k
  obtain ⟨μ, e⟩ := real_at _ _ k
  refine ⟨μ, ?_⟩
  rw [← e, Plain.reduce_max _ _ (by decide) (constant S_ .f32 0xFF800000#32) (fun _ => Plain.word_bot), dot_plain]
  exact Finset.sup_congr rfl fun v _ => (StackMember.dotGeneral_plain_apply _ _ _ _ v).symm

/-- The place's bias is zero. -/
theorem bias_zero (h : (fn (F := Ideal) x W u w s).2.1 = fun _ => 1#1) (i : S100000.Idx) : u i = 0 := by
  have k := congrFun h i
  unfold fn at k
  dsimp only at k
  rw [cmpf_apply] at k
  exact (of_ofBool k).trans Ideal.ofBits_zero_f32

/-- The distance's bias is zero. -/
theorem distance_bias_zero (h : (fn (F := Ideal) x W u w s).2.2 = fun _ => 1#1) (i : S1.Idx) : s i = 0 := by
  have k := congrFun h i
  unfold fn at k
  dsimp only at k
  rw [cmpf_apply] at k
  exact (of_ofBool k).trans Ideal.ofBits_zero_f32

end Cert.Proof.Unbiased

end
-- ==== Proof.Lane.Step.lean ====
/-
  One lane of the online pass, over the extended reals: the four running numbers, what one tile of logits does to
  them, and what they hold after the first tiles of a list of logits, whatever the sizes of the tiles.
-/
module

public import Idealize.ShloMosaic.PureOps.Ideal

@[expose] public section

noncomputable section

namespace Cert.Proof.Lane

open Idealize.ShloMosaic Finset

/-- A lane's running numbers: the maximum, the sum of exponentials, the weighted sum, the index. -/
@[ext] structure Row where
  m : EReal
  s : EReal
  u : EReal
  i : EReal

/-- Before the first tile. -/
def Row.init : Row := ⟨⊥, 0, 0, 0⟩

/-- After one more tile of logits `l`, whose first has the number `off`: the row number is coded so that the largest
    code of a row that reaches the maximum is that of the first such row. -/
def Row.step {R : ℕ} (l : Fin R → EReal) (off : ℕ) (σ : Row) : Row where
  m := max σ.m (univ.sup l)
  s := σ.s * Ideal.exp (σ.m - max σ.m (univ.sup l)) + ∑ r, Ideal.exp (l r - max σ.m (univ.sup l))
  u := σ.u * Ideal.exp (σ.m - max σ.m (univ.sup l)) + ∑ r, Ideal.exp (l r - max σ.m (univ.sup l)) * l r
  i := if σ.m < univ.sup l then (((16777216 + off : ℝ)) : EReal)
    - univ.sup (fun r : Fin R => if max σ.m (univ.sup l) ≤ l r then ((16777216 - (r.val : ℝ) : ℝ) : EReal) else ⊥) else σ.i

theorem Row.step_i {R : ℕ} (l : Fin R → EReal) (off : ℕ) (σ : Row) :
    (σ.step l off).i = if σ.m < univ.sup l then (((16777216 + off : ℝ)) : EReal)
      - univ.sup (fun r : Fin R => if max σ.m (univ.sup l) ≤ l r then ((16777216 - (r.val : ℝ) : ℝ) : EReal) else ⊥) else σ.i := rfl

/-! ## The exponential of a difference as a real number -/

/-- The exponential of how far `a` lies below `m`. -/
def e (a m : EReal) : ℝ := (Ideal.exp (a - m)).toReal

theorem exp_bot : Ideal.exp ⊥ = 0 := rfl
theorem e_bot (m : EReal) : e ⊥ m = 0 := by rw [e, EReal.bot_sub, exp_bot, EReal.toReal_zero]
theorem e_coe (a m : ℝ) : e a m = Real.exp (a - m) := by
  rw [e, ← EReal.coe_sub]; rfl
theorem exp_sub {a m : EReal} (ha : a ≤ m) (hm : m ≠ ⊤) : Ideal.exp (a - m) = (e a m : EReal) := by
  induction a using EReal.rec with
  | bot => rw [e_bot, EReal.bot_sub, exp_bot, EReal.coe_zero]
  | top => exact absurd (top_le_iff.mp ha) hm
  | coe a =>
    induction m using EReal.rec with
    | bot => exact absurd (le_bot_iff.mp ha) (EReal.coe_ne_bot a)
    | top => exact absurd rfl hm
    | coe m => rw [e_coe, ← EReal.coe_sub]; rfl
theorem exp_sub_mul {a m : EReal} (ha : a ≤ m) (hm : m ≠ ⊤) : Ideal.exp (a - m) * a = ((e a m * a.toReal : ℝ) : EReal) := by
  rw [exp_sub ha hm]
  induction a using EReal.rec with
  | bot => simp [e_bot]
  | top => exact absurd (top_le_iff.mp ha) hm
  | coe a => rw [EReal.toReal_coe, EReal.coe_mul]
theorem e_mul {a m m' : EReal} (ha : a ≤ m) (hm : m ≤ m') (hm' : m' ≠ ⊤) : e a m * e m m' = e a m' := by
  induction a using EReal.rec with
  | bot => simp [e_bot]
  | top => exact absurd (top_le_iff.mp (ha.trans hm)) hm'
  | coe a =>
    induction m using EReal.rec with
    | bot => exact absurd (le_bot_iff.mp ha) (EReal.coe_ne_bot a)
    | top => exact absurd (top_le_iff.mp hm) hm'
    | coe m =>
      induction m' using EReal.rec with
      | bot => exact absurd (le_bot_iff.mp hm) (EReal.coe_ne_bot m)
      | top => exact absurd rfl hm'
      | coe m' => rw [e_coe, e_coe, e_coe, ← Real.exp_add]; ring_nf

theorem coe_sum {ι : Type} (S : Finset ι) (f : ι → ℝ) : ((∑ x ∈ S, f x : ℝ) : EReal) = ∑ x ∈ S, (f x : EReal) := by
  classical
  induction S using Finset.induction_on with
  | empty => simp
  | insert a S ha ih => rw [sum_insert ha, sum_insert ha, EReal.coe_add, ih]

/-! ## What the numbers hold after the first `n` logits -/

variable (L : ℕ → EReal)

/-- The first place among the first `n` where the maximum `m` is reached. -/
def First (n : ℕ) (m : EReal) (v : ℕ) : Prop := v < n ∧ L v = m ∧ ∀ w < v, L w < m

/-- The numbers of the first `n` logits. -/
structure Good (n : ℕ) (σ : Row) : Prop where
  m : σ.m = (range n).sup L
  s : σ.s = ((∑ v ∈ range n, e (L v) σ.m : ℝ) : EReal)
  u : σ.u = ((∑ v ∈ range n, e (L v) σ.m * (L v).toReal : ℝ) : EReal)
  i : σ.m ≠ ⊥ → ∃ v, First L n σ.m v ∧ σ.i = ((v : ℝ) : EReal)

theorem good_init : Good L 0 Row.init :=
  ⟨by simp [Row.init], by simp [Row.init], by simp [Row.init], fun h => absurd rfl h⟩

theorem sup_tile (n R : ℕ) : max ((range n).sup L) (univ.sup fun r : Fin R => L (n + r)) = (range (n + R)).sup L := by
  apply le_antisymm
  · refine max_le (Finset.sup_mono (range_subset_range.mpr (Nat.le_add_right n R))) (Finset.sup_le fun r _ => ?_)
    exact Finset.le_sup (f := L) (mem_range.mpr (Nat.add_lt_add_left r.isLt n))
  · refine Finset.sup_le fun v hv => ?_
    by_cases h : v < n
    · exact (Finset.le_sup (f := L) (mem_range.mpr h)).trans (le_max_left _ _)
    · have hv' := mem_range.mp hv
      have := Finset.le_sup (f := fun r : Fin R => L (n + r)) (mem_univ (⟨v - n, by omega⟩ : Fin R))
      simp only [show n + (v - n) = v by omega] at this
      exact this.trans (le_max_right _ _)

theorem sup_ne_top (hL : ∀ v, L v ≠ ⊤) (n : ℕ) : (range n).sup L ≠ ⊤ := by
  refine ne_of_lt ((Finset.sup_lt_iff (bot_lt_top)).mpr fun v _ => lt_top_iff_ne_top.mpr (hL v))

/-- The first row of a tile that reaches the tile's maximum, when there is one. -/
theorem first_row {R : ℕ} (l : Fin R → EReal) (h : ⊥ < univ.sup l) :
    ∃ r : Fin R, l r = univ.sup l ∧ ∀ q < r, l q < univ.sup l := by
  classical
  have hne : (univ : Finset (Fin R)).Nonempty := by
    by_contra hh
    rw [not_nonempty_iff_eq_empty] at hh
    rw [hh] at h; exact absurd h (by simp)
  obtain ⟨r0, _, hr0⟩ := exists_mem_eq_sup univ hne l
  have hS : (univ.filter fun r => l r = univ.sup l).Nonempty := ⟨r0, by simp [hr0]⟩
  refine ⟨(univ.filter fun r => l r = univ.sup l).min' hS, (mem_filter.mp (min'_mem _ hS)).2, fun q hq => ?_⟩
  refine lt_of_le_of_ne (le_sup (mem_univ q)) fun hh => ?_
  exact absurd (min'_le _ q (mem_filter.mpr ⟨mem_univ q, hh⟩)) (not_le.mpr hq)

/-- One more tile: the numbers of `n + R` logits. -/
theorem good_step (hL : ∀ v, L v ≠ ⊤) {n R : ℕ} {σ : Row} (h : Good L n σ) :
    Good L (n + R) (σ.step (fun r : Fin R => L (n + r)) n) := by
  have hmx : max σ.m (univ.sup fun r : Fin R => L (n + r)) = (range (n + R)).sup L := by rw [h.m]; exact sup_tile L n R
  have htop := sup_ne_top L hL (n + R)
  have hle : ∀ v < n + R, L v ≤ (range (n + R)).sup L := fun v hv => le_sup (f := L) (mem_range.mpr hv)
  have hle0 : ∀ v < n, L v ≤ σ.m := fun v hv => by rw [h.m]; exact le_sup (f := L) (mem_range.mpr hv)
  have hm : σ.m ≤ (range (n + R)).sup L := by rw [← hmx]; exact le_max_left _ _
  refine ⟨hmx, ?_, ?_, ?_⟩
  · show σ.s * Ideal.exp (σ.m - max σ.m (univ.sup fun r : Fin R => L (n + r))) + _ = _
    simp only [Row.step, hmx]
    rw [h.s, exp_sub hm htop, sum_range_add, ← EReal.coe_mul, EReal.coe_add]
    congr 1
    · rw [sum_mul]
      exact congrArg _ (sum_congr rfl fun v hv => e_mul (hle0 v (mem_range.mp hv)) hm htop)
    · rw [← Fin.sum_univ_eq_sum_range (fun x => e (L (n + x)) _), coe_sum]
      exact sum_congr rfl fun r _ => exp_sub (hle _ (by omega)) htop
  · show σ.u * Ideal.exp (σ.m - max σ.m (univ.sup fun r : Fin R => L (n + r))) + _ = _
    simp only [Row.step, hmx]
    rw [h.u, exp_sub hm htop, sum_range_add, ← EReal.coe_mul, EReal.coe_add]
    congr 1
    · rw [sum_mul]
      exact congrArg _ (sum_congr rfl fun v hv => by rw [mul_right_comm, e_mul (hle0 v (mem_range.mp hv)) hm htop])
    · rw [← Fin.sum_univ_eq_sum_range (fun x => e (L (n + x)) _ * (L (n + x)).toReal), coe_sum]
      exact sum_congr rfl fun r _ => exp_sub_mul (hle _ (by omega)) htop
  · intro hb
    simp only [Row.step, hmx] at hb ⊢
    by_cases ht : σ.m < univ.sup fun r : Fin R => L (n + r)
    · rw [if_pos ht]
      obtain ⟨r, hr, hq⟩ := first_row (fun r : Fin R => L (n + r)) (lt_of_le_of_lt bot_le ht)
      have hM : (univ.sup fun r : Fin R => L (n + r)) = (range (n + R)).sup L := by rw [← hmx]; exact (max_eq_right ht.le).symm
      rw [hM] at hr hq ht
      refine ⟨n + r, ⟨by omega, hr, fun w hw => ?_⟩, ?_⟩
      · by_cases hwn : w < n
        · exact lt_of_le_of_lt (hle0 w hwn) ht
        · have := hq ⟨w - n, by omega⟩ (by rw [Fin.lt_def]; show w - n < r.val; omega)
          simpa only [show n + (w - n) = w by omega] using this
      · have hs : (univ.sup fun q : Fin R => if (range (n + R)).sup L ≤ L (n + q) then ((16777216 - (q.val : ℝ) : ℝ) : EReal) else ⊥)
            = ((16777216 - (r.val : ℝ) : ℝ) : EReal) := by
          apply le_antisymm
          · refine Finset.sup_le fun q _ => ?_
            split
            · rename_i hqm
              refine EReal.coe_le_coe_iff.mpr ?_
              have hrq : r ≤ q := not_lt.mp fun hlt => absurd (hq q hlt) (not_lt.mpr hqm)
              have : (r.val : ℝ) ≤ q.val := by exact_mod_cast hrq
              linarith
            · exact bot_le
          · refine le_trans (le_of_eq ?_) (le_sup (f := fun q : Fin R => if (range (n + R)).sup L ≤ L (n + q) then ((16777216 - (q.val : ℝ) : ℝ) : EReal) else ⊥) (mem_univ r))
            simp only [hr, le_refl, if_true]
        rw [hs, ← EReal.coe_sub]
        congr 1
        push_cast
        ring
    · rw [if_neg ht]
      have hM : σ.m = (range (n + R)).sup L := by rw [← hmx]; exact (max_eq_left (not_lt.mp ht)).symm
      obtain ⟨v, ⟨hv, hv1, hv2⟩, hv3⟩ := h.i (hM ▸ hb)
      exact ⟨v, ⟨by omega, hM ▸ hv1, hM ▸ hv2⟩, hv3⟩

end Cert.Proof.Lane

end
-- ==== Proof.Lane.Softmax.lean ====
/-
  What the numbers of a whole row say: the sum is the softmax's normalizer, and the two results computed from the
  numbers are the logarithm of the largest probability and the entropy of the softmax.
-/
module

public import proofs.«01_k».proof.Proof.Lane.Step

@[expose] public section

noncomputable section

namespace Cert.Proof.Lane

open Idealize.ShloMosaic
open Finset

theorem log_coe {s : ℝ} (hs : 0 < s) : Ideal.log (s : EReal) = (Real.log s : EReal) := by
  show (if s ≤ 0 then (⊥ : EReal) else (Real.log s : EReal)) = _
  rw [if_neg (not_le.mpr hs)]

theorem div_coe (u : ℝ) {s : ℝ} (hs : 0 < s) : Ideal.div (u : EReal) (s : EReal) = ((u / s : ℝ) : EReal) := by
  unfold Ideal.div
  rw [if_neg (by exact_mod_cast hs.ne'), div_eq_mul_inv, EReal.coe_mul, EReal.coe_inv]

variable {N : ℕ} {L : ℕ → EReal} {A : Fin N → EReal} {σ : Row}

/-- A row's largest is the same counted over its places. -/
theorem sup_range (hA : ∀ v, A v = L v.val) : (range N).sup L = univ.sup A := by
  apply le_antisymm
  · refine Finset.sup_le fun v hv => ?_
    have h := hA ⟨v, mem_range.mp hv⟩
    exact h ▸ Finset.le_sup (f := A) (mem_univ _)
  · refine Finset.sup_le fun v _ => ?_
    rw [hA]
    exact Finset.le_sup (f := L) (mem_range.mpr v.isLt)

variable (g : Good L N σ) (hA : ∀ v, A v = L v.val) (μ : ℝ) (hμ : univ.sup A = (μ : EReal))

include g hA hμ

theorem m_eq : σ.m = (μ : EReal) := g.m.trans ((sup_range hA).trans hμ)

/-- The place: the first one that holds the row's largest. -/
theorem place_eq (v : Fin N) (hv : A v = (μ : EReal)) (hw : ∀ w : Fin N, w < v → A w < (μ : EReal)) : σ.i = ((v.val : ℝ) : EReal) := by
  have hm := m_eq g hA μ hμ
  obtain ⟨k, ⟨hk, hkm, hkw⟩, hi⟩ := g.i (by rw [hm]; exact EReal.coe_ne_bot μ)
  rw [hm] at hkm hkw
  have h : k = v.val := by
    rcases lt_trichotomy k v.val with h | h | h
    · have := hw ⟨k, hk⟩ h
      rw [hA] at this
      exact absurd hkm this.ne
    · exact h
    · have := hkw v.val h
      rw [← hA] at this
      exact absurd hv this.ne
  rw [hi, h]

/-- The normalizer is a positive real: the sum the numbers hold, and the sum of the exponentials. -/
theorem normalizer : ∃ S : ℝ, 0 < S ∧ S = ∑ v, e (A v) μ ∧ σ.s = (S : EReal) ∧ ∑ v, Ideal.exp (A v - μ) = (S : EReal) := by
  have hm := m_eq g hA μ hμ
  have le : ∀ v, A v ≤ (μ : EReal) := fun v => hμ ▸ Finset.le_sup (f := A) (mem_univ v)
  have nn : ∀ v, 0 ≤ e (A v) μ := fun v => by
    have h := le v
    generalize A v = a at h
    induction a using EReal.rec with
    | bot => rw [e_bot]
    | top => exact absurd (top_le_iff.mp h) (EReal.coe_ne_top μ)
    | coe a => rw [e_coe]; exact (Real.exp_pos _).le
  obtain ⟨k, ⟨hk, hkm, -⟩, -⟩ := g.i (by rw [hm]; exact EReal.coe_ne_bot μ)
  rw [hm] at hkm
  refine ⟨∑ v, e (A v) μ, ?_, rfl, ?_, ?_⟩
  · refine Finset.sum_pos' (fun v _ => nn v) ⟨⟨k, hk⟩, mem_univ _, ?_⟩
    rw [hA, hkm, e_coe]
    exact Real.exp_pos _
  · rw [g.s, hm, Finset.sum_range fun v => e (L v) μ]
    exact congrArg _ (Finset.sum_congr rfl fun v _ => by rw [hA])
  · rw [coe_sum]
    exact Finset.sum_congr rfl fun v _ => exp_sub (le v) (EReal.coe_ne_top μ)

/-- The logarithm of the largest probability. -/
theorem logp_eq : 0 - Ideal.log σ.s = ((μ : EReal) - μ) - Ideal.log (∑ v, Ideal.exp (A v - μ)) := by
  obtain ⟨S, hS, -, hs, he⟩ := normalizer g hA μ hμ
  rw [hs, he, ← EReal.coe_sub, sub_self, EReal.coe_zero]

/-- The entropy of the softmax. -/
theorem entropy_eq : σ.m + Ideal.log σ.s - Ideal.div σ.u σ.s
    = -∑ v, Ideal.exp (A v - μ - Ideal.log (∑ w, Ideal.exp (A w - μ))) * (A v - μ - Ideal.log (∑ w, Ideal.exp (A w - μ))) := by
  obtain ⟨S, hS, hSe, hs, he⟩ := normalizer g hA μ hμ
  have hm := m_eq g hA μ hμ
  have le : ∀ v, A v ≤ (μ : EReal) := fun v => hμ ▸ Finset.le_sup (f := A) (mem_univ v)
  have term : ∀ v, Ideal.exp (A v - μ - (Real.log S : EReal)) * (A v - μ - (Real.log S : EReal))
      = ((e (A v) μ * (A v).toReal / S - e (A v) μ / S * (μ + Real.log S) : ℝ) : EReal) := fun v => by
    have h := le v
    generalize A v = a at h
    induction a using EReal.rec with
    | bot => simp [e_bot, exp_bot]
    | top => exact absurd (top_le_iff.mp h) (EReal.coe_ne_top μ)
    | coe a =>
      rw [← EReal.coe_sub, ← EReal.coe_sub]
      show ((Real.exp (a - μ - Real.log S) : ℝ) : EReal) * _ = _
      rw [← EReal.coe_mul, e_coe, EReal.toReal_coe, Real.exp_sub, Real.exp_log hS]
      congr 1
      ring
  have hu : σ.u = ((∑ v, e (A v) μ * (A v).toReal : ℝ) : EReal) := by
    rw [g.u, hm, Finset.sum_range fun v => e (L v) μ * (L v).toReal]
    exact congrArg _ (Finset.sum_congr rfl fun v _ => by rw [hA])
  rw [he, log_coe hS, Finset.sum_congr rfl fun v _ => term v, ← coe_sum, hs, hu, hm, log_coe hS, div_coe _ hS, ← EReal.coe_add, ← EReal.coe_sub,
    ← EReal.coe_neg, Finset.sum_sub_distrib, ← Finset.sum_div, ← Finset.sum_mul, ← Finset.sum_div, ← hSe, div_self hS.ne']
  congr 1
  ring

end Cert.Proof.Lane

end
-- ==== Proof.KernelIdeal.Arrays.lean ====
/-
  What the launch reads and what its four result rows hold: the features and weights are read transposed, and each
  result row ends as the body leaves it at the grid's one point.
-/
module

public import proofs.«01_k».proof.Proof.KernelIdeal.Launch
public import Idealize.ShloMosaic.Lib.Pipeline.ValueKit
public import Idealize.ShloMosaic.Lib.Claim

@[expose] public section

set_option maxRecDepth 16384

noncomputable section

namespace Cert.Proof.Sampler

open Cert.KernelIdeal Cert.KernelIdeal.Gen
open Idealize.ShloMosaic Idealize.ShloMosaic.ValueIdx
open Idealize.ShloMosaic.TcCoe Idealize.ShloMosaic.Tactic
open Idealize.ShloMosaic.Pipeline (Dat Cfg Window)

variable {F : FTy → Type} [FloatOps F] [Named F]
variable (m : (ℓ : Loc nD τ sig) → Buf (Elt F) ℓ) (c : Dev nD)

/-! ## What the launch reads -/

/-- Every window's block index at the one point. -/
theorem index_eq : ∀ t : Fin cfg0.N, win0_0.index t = ![0, 0] ∧ win0_1.index t = ![0, 0] :=
  (by decide +kernel : ∀ t : Fin grid0.N, _)

theorem XA_eq : XA m c = transpose S100000x128 [1, 0] (m ((c : Thread nD τ).loc main_arg1)) transposes_S128x100000_S100000x128_1_0 := by
  unfold XA V V0 hostOps0
  simp only [List.flatten_cons, List.flatten_nil, List.append_nil]
  after_results

theorem XT_eq : XT m c t0_0 = transpose S128x128 [1, 0] (m ((c : Thread nD τ).loc main_arg0)) transposes_S128x128_S128x128_1_0 := by
  have h : V m c main_v1 = transpose S128x128 [1, 0] (m ((c : Thread nD τ).loc main_arg0)) transposes_S128x128_S128x128_1_0 := by
    unfold V V0 hostOps0
    simp only [List.flatten_cons, List.flatten_nil, List.append_nil]
    after_results
  rw [← h]
  blk_ext! [iblk, index_eq t0_0]

theorem XD_eq : XD m c t0_0 = m ((c : Thread nD τ).loc main_arg3) := by
  rw [← V_main_arg3 m c]
  blk_ext! [iblk, index_eq t0_0]

/-! ## What the result rows hold -/

theorem arr2 : (dats m 0 c).arrAt 2 cfg0.N = (St.final (XT m c t0_0) (XA m c)).i := by
  refine (dats m 0 c).arrAt_eq_of_after_last 2 t0_0 (by decide +kernel) _ fun j => ?_
  blk_simp
  rw [after_w2]
theorem arr3 : (dats m 0 c).arrAt 3 cfg0.N = k0_pay13 (XT m c t0_0) (XD m c t0_0) := by
  refine (dats m 0 c).arrAt_eq_of_after_last 3 t0_0 (by decide +kernel) _ fun j => ?_
  blk_simp
  rw [after_w3]
theorem arr4 : (dats m 0 c).arrAt 4 cfg0.N = k0_pay33 (St.final (XT m c t0_0) (XA m c)).s := by
  refine (dats m 0 c).arrAt_eq_of_after_last 4 t0_0 (by decide +kernel) _ fun j => ?_
  blk_simp
  rw [after_w4]
theorem arr5 : (dats m 0 c).arrAt 5 cfg0.N
    = k0_pay34 (St.final (XT m c t0_0) (XA m c)).s (St.final (XT m c t0_0) (XA m c)).m (St.final (XT m c t0_0) (XA m c)).u := by
  refine (dats m 0 c).arrAt_eq_of_after_last 5 t0_0 (by decide +kernel) _ fun j => ?_
  blk_simp
  rw [after_w5]

end Cert.Proof.Sampler
-- ==== Proof.KernelIdeal.Reads.lean ====
/-
  What the body's operations give at an index, over the extended reals, for a block of any number of rows.
-/
module

public import proofs.«01_k».proof.Proof.Gen.KernelIdeal.Skeleton
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.PureOps.Ideal.Laws

@[expose] public section

noncomputable section

namespace Cert.Proof.Sampler

open Cert.KernelIdeal Cert.KernelIdeal.Gen
open Idealize.ShloMosaic Idealize.ShloMosaic.ValueIdx

/-! ## The literals -/

theorem lit_bot : Ideal.ofBits .f32 0xFF800000#32 = ⊥ := by simp [Ideal.ofBits, Ideal.ieee]
theorem lit_code : Ideal.ofBits .f32 0x4B800000#32 = ((16777216 : ℝ) : EReal) := by
  simp [Ideal.ofBits, Ideal.ieee]; norm_num; rw [← EReal.coe_mul]; norm_num
theorem lit_tile : Ideal.ofBits .f32 0x46800000#32 = ((16384 : ℝ) : EReal) := by
  simp [Ideal.ofBits, Ideal.ieee]; norm_num; rw [← EReal.coe_mul]; norm_num
theorem lit_tail : Ideal.ofBits .f32 0x47C00000#32 = ((98304 : ℝ) : EReal) := by
  simp [Ideal.ofBits, Ideal.ieee]; norm_num; rw [← EReal.coe_mul]; norm_num

/-! ## Down the rows of a block -/

section Rows
variable {R : ℕ} (A : FVec Ideal ⟨2, ![R, 128]⟩ .f32)

theorem lift_row (h : Shape.Reduces ⟨2, ![R, 128]⟩ [0] S128) (b : Fin 128) (r : Fin R) : h.lift (ix1 b) r = ix2 r b := by
  funext c
  match c with
  | ⟨0, _⟩ => exact Fin.ext rfl
  | ⟨1, _⟩ => exact Fin.ext rfl

/-- The largest of a lane's rows. -/
theorem colMax (h : Shape.Reduces ⟨2, ![R, 128]⟩ [0] S128) (hφ hacc hc) (b : Fin 128) :
    shapeCast S1x128 (multiReduction .maximumf [0] S128 A 0xFF800000#32 h hφ hacc) hc (ix2 (0 : Fin 1) b)
      = Finset.univ.sup fun r : Fin R => A (ix2 r b) := by
  rw [shapeCast_a_1a_apply, Ideal.multiReduction_maximumf_single]
  have e : (A ∘ h.lift (ix1 b)) = fun r : Fin R => A (ix2 r b) := funext fun r => congrArg A (lift_row h b r)
  rw [e]
  show Finset.fold max (Ideal.ofBits .f32 0xFF800000#32) _ _ = _
  rw [lit_bot]
  rfl

/-- The sum of a lane's rows. -/
theorem colSum (h : Shape.Reduces ⟨2, ![R, 128]⟩ [0] S128) (hφ hacc hc) (b : Fin 128) :
    shapeCast S1x128 (multiReduction .add [0] S128 A 0x00000000#32 h hφ hacc) hc (ix2 (0 : Fin 1) b) = ∑ r : Fin R, A (ix2 r b) := by
  rw [shapeCast_a_1a_apply, Ideal.multiReduction_add_single]
  exact Finset.sum_congr rfl fun r _ => congrArg A (lift_row h b r)

theorem word_sub (c n : ℕ) (hn : n ≤ c) (hc : 2 * c < 2 ^ 32) : (BitVec.ofNat 32 c - BitVec.ofNat 32 n).toInt = (c : ℤ) - (n : ℤ) := by
  have hlt : c - n < 2 ^ 32 := by omega
  have e2 : (BitVec.ofNat 32 (c - n)).toNat = c - n := by rw [BitVec.toNat_ofNat, Nat.mod_eq_of_lt hlt]
  rw [BitVec.ofNat_sub_ofNat_of_le c n (by omega) hn, BitVec.toInt_eq_toNat_of_lt (by rw [e2]; omega), e2, Nat.cast_sub hn]

theorem real_word {s : Shape} (x y : IVec s 32) (i : s.Idx) : sitofp (F := Ideal) .f32 (subi x y) i = (((x i - y i).toInt : ℝ) : EReal) := rfl

theorem row_word (h : Shape.Iotas ⟨2, ![R, 128]⟩ .tc 32 [0]) (r : Fin R) (b : Fin 128) :
    iota .tc ⟨2, ![R, 128]⟩ 32 [0] h (ix2 r b) = BitVec.ofNat 32 r.val := by
  show BitVec.ofNat 32 (0 * R + r.val) = _
  rw [Nat.zero_mul, Nat.zero_add]

/-- The code of row `r`. -/
theorem code_apply (hi : R ≤ 16777216) (h : Shape.Iotas ⟨2, ![R, 128]⟩ .tc 32 [0]) (r : Fin R) (b : Fin 128) :
    sitofp (F := Ideal) .f32 (subi (broadcast ⟨2, ![R, 128]⟩ 16777216#32) (iota .tc ⟨2, ![R, 128]⟩ 32 [0] h)) (ix2 r b)
      = ((16777216 - (r.val : ℝ) : ℝ) : EReal) := by
  rw [real_word, broadcast_apply, row_word, word_sub 16777216 r.val (r.isLt.le.trans hi) (by norm_num), Int.cast_sub, Int.cast_natCast, Int.cast_natCast, Nat.cast_ofNat]

/-- The largest code among the rows that reach `M`. -/
theorem colCode (M : FVec Ideal S1x128 .f32) (B : FVec Ideal ⟨2, ![R, 128]⟩ .f32) (hB : ∀ r b, B (ix2 r b) = ((16777216 - (r.val : ℝ) : ℝ) : EReal))
    (N : FVec Ideal ⟨2, ![R, 128]⟩ .f32) (hN : ∀ i, N i = ⊥) (hbc : S1x128.Broadcasts ⟨2, ![R, 128]⟩)
    (h : Shape.Reduces ⟨2, ![R, 128]⟩ [0] S128) (hφ hacc hc) (b : Fin 128) :
    shapeCast S1x128 (multiReduction .maximumf [0] S128 (select (cmpf .oge A (broadcastTo ⟨2, ![R, 128]⟩ M hbc)) B N) 0xFF800000#32 h hφ hacc) hc (ix2 (0 : Fin 1) b)
      = Finset.univ.sup fun r : Fin R => if M (ix2 0 b) ≤ A (ix2 r b) then ((16777216 - (r.val : ℝ) : ℝ) : EReal) else ⊥ := by
  rw [colMax]
  refine congrArg _ (funext fun r => ?_)
  show Scalar.select (Ideal.cmp .oge (A (ix2 r b)) (broadcastTo ⟨2, ![R, 128]⟩ M hbc (ix2 r b))) (B (ix2 r b)) (N (ix2 r b)) = _
  rw [broadcastTo_1b_ab_apply, hB, hN]
  by_cases hc : M (ix2 0 b) ≤ A (ix2 r b)
  · rw [if_pos hc]; simp [Ideal.cmp, hc, Scalar.select]
  · rw [if_neg hc]; simp [Ideal.cmp, hc, Scalar.select]

end Rows

end Cert.Proof.Sampler

end
-- ==== Proof.KernelIdeal.LaneStep.lean ====
/-
  Over the extended reals one tile does to a lane of the kernel's four rows what the online pass does to a lane.
-/
module

public import proofs.«01_k».proof.Proof.KernelIdeal.Reads
public import proofs.«01_k».proof.Proof.KernelIdeal.Body
public import proofs.«01_k».proof.Proof.Lane.Step

@[expose] public section

noncomputable section

namespace Cert.Proof.Sampler

open Cert.KernelIdeal Cert.KernelIdeal.Gen
open Idealize.ShloMosaic Idealize.ShloMosaic.ValueIdx

/-- Lane `b` of the four rows. -/
def lane (σ : St Ideal) (b : Fin 128) : Lane.Row :=
  ⟨σ.m (ix2 (0 : Fin 1) b), σ.s (ix2 (0 : Fin 1) b), σ.u (ix2 (0 : Fin 1) b), σ.i (ix2 (0 : Fin 1) b)⟩

theorem mask_eq : (Named.named κ "mask" (0xF149F2CA#32 : BitVec FTy.f32.bits) : Ideal .f32) = ⊥ :=
  IdealRules.named_const.ideal_named_scalar κ "mask" _ ⊥ rfl

theorem pay14_at (i : S1x128.Idx) : k0_pay14 (F := Ideal) i = ⊥ := by
  unfold k0_pay14
  rw [shapeCast_self]
  exact mask_eq
theorem pay15_at (i : S1x128.Idx) : k0_pay15 (F := Ideal) i = 0 := by
  unfold k0_pay15
  rw [shapeCast_self]
  exact Ideal.ofBits_zero_f32

theorem lane_init (b : Fin 128) : lane (St.init (F := Ideal)) b = Lane.Row.init :=
  Lane.Row.ext (pay14_at (ix2 (0 : Fin 1) b)) (pay15_at (ix2 (0 : Fin 1) b)) (pay15_at (ix2 (0 : Fin 1) b)) (pay15_at (ix2 (0 : Fin 1) b))

/-! ## The four rows written back -/

section Rows
variable (x a s t i : FVec Ideal S1x128 .f32) (b : Fin 128)

theorem pay12_at : k0_pay12 x = x := by
  unfold k0_pay12
  exact shapeCast_self _ _

theorem pay9_at (p : FVec Ideal S16384x128 .f32) :
    k0_pay9 a p s (ix2 (0 : Fin 1) b) = s (ix2 (0 : Fin 1) b) * a (ix2 (0 : Fin 1) b) + ∑ r : Fin 16384, p (ix2 r b) := by
  unfold k0_pay9
  rw [shapeCast_self, addf_apply]
  exact congrArg _ (colSum p _ _ _ _ b)

theorem pay10_at (l p : FVec Ideal S16384x128 .f32) :
    k0_pay10 l a p s (ix2 (0 : Fin 1) b) = s (ix2 (0 : Fin 1) b) * a (ix2 (0 : Fin 1) b) + ∑ r : Fin 16384, p (ix2 r b) * l (ix2 r b) := by
  unfold k0_pay10
  rw [shapeCast_self, addf_apply]
  exact congrArg _ (colSum (mulf p l) _ _ _ _ b)

theorem pick_at (g : BitVec 1) (p : Prop) [Decidable p] (h : g = BitVec.ofBool (decide p)) (y z : EReal) : Scalar.select g y z = if p then y else z := by
  by_cases hp : p
  · subst h; simp [hp, Scalar.select]
  · subst h; simp [hp, Scalar.select]

theorem pay11_at (c : FVec Ideal S16384x128 .f32) (o : Ideal .f32) (l : FVec Ideal S16384x128 .f32) (n : FVec Ideal S16384x128 .f32)
    (M : FVec Ideal S1x128 .f32) (hc : ∀ r b, c (ix2 r b) = ((16777216 - (r.val : ℝ) : ℝ) : EReal)) (hn : ∀ i, n i = ⊥) :
    k0_pay11 c o t x (cmpf .oge l (broadcastTo S16384x128 M broadcasts_S1x128_S16384x128)) n i (ix2 (0 : Fin 1) b)
      = if x (ix2 (0 : Fin 1) b) < t (ix2 (0 : Fin 1) b)
        then (o : EReal) - Finset.univ.sup (fun r : Fin 16384 => if M (ix2 (0 : Fin 1) b) ≤ l (ix2 r b) then ((16777216 - (r.val : ℝ) : ℝ) : EReal) else ⊥)
        else i (ix2 (0 : Fin 1) b) := by
  unfold k0_pay11
  rw [shapeCast_self, select_apply, cmpf_apply, subf_apply, broadcast_apply]
  have h := colCode (R := 16384) l M c hc n hn broadcasts_S1x128_S16384x128 reduces_S16384x128_S128 (.inl rfl) rfl shapeCasts_S128_S1x128 b
  refine (pick_at _ (x (ix2 (0 : Fin 1) b) < t (ix2 (0 : Fin 1) b)) rfl _ _).trans ?_
  rw [← h]

end Rows

/-! ## A tile -/

section Tile
variable (x : FVec Ideal S128x128 .f32) (T : Vec Ideal S1x16384x128 .f32) (k : Fin k0_t1_loop.trips) (σ : St Ideal) (b : Fin 128)

/-- Lane `b` of the tile's logits. -/
abbrev tl : Fin 16384 → EReal := fun r => k0_pay1 x T (ix2 r b)

theorem pay3_at : k0_pay3 x T (ix2 (0 : Fin 1) b) = Finset.univ.sup (tl x T b) := colMax (k0_pay1 x T) _ _ _ _ b
theorem pay4_at (m : FVec Ideal S1x128 .f32) : k0_pay4 x T m (ix2 (0 : Fin 1) b) = max (m (ix2 (0 : Fin 1) b)) (Finset.univ.sup (tl x T b)) := by
  show max _ (k0_pay3 x T (ix2 (0 : Fin 1) b)) = _
  rw [pay3_at]
theorem pay5_at (m : FVec Ideal S1x128 .f32) : k0_pay5 x T m (ix2 (0 : Fin 1) b) = Ideal.exp (m (ix2 (0 : Fin 1) b) - max (m (ix2 (0 : Fin 1) b)) (Finset.univ.sup (tl x T b))) := by
  show Ideal.exp (m (ix2 (0 : Fin 1) b) - k0_pay4 x T m (ix2 (0 : Fin 1) b)) = _
  rw [pay4_at]
theorem pay6_at (m : FVec Ideal S1x128 .f32) (r : Fin 16384) :
    k0_pay6 x T m (ix2 r b) = Ideal.exp (tl x T b r - max (m (ix2 (0 : Fin 1) b)) (Finset.univ.sup (tl x T b))) := by
  show Ideal.exp (k0_pay1 x T (ix2 r b) - broadcastTo S16384x128 (k0_pay4 x T m) broadcasts_S1x128_S16384x128 (ix2 r b)) = _
  rw [broadcastTo_1b_ab_apply, pay4_at]

theorem pay2_at : k0_pay2 (F := Ideal) (Scalar.ofBits .f32 0x4B800000#32) 0#32 1#32 k = ((16777216 + (16384 * k.val : ℕ) : ℝ) : EReal) := by
  show Ideal.ofBits .f32 0x4B800000#32 + Ideal.ofBits .f32 0x46800000#32 * (((Scf.iv 0#32 1#32 k.val).toInt : ℝ) : EReal) = _
  have hk : k.val < 6 := k.isLt
  have e : (Scf.iv 0#32 1#32 k.val).toInt = (k.val : ℤ) := by
    interval_cases k.val <;> decide
  rw [e, lit_code, lit_tile, ← EReal.coe_mul, ← EReal.coe_add, Int.cast_natCast, Nat.cast_mul, Nat.cast_ofNat]

theorem pay7_eq (m : FVec Ideal S1x128 .f32) :
    k0_pay7 x T m = cmpf .oge (k0_pay1 x T) (broadcastTo S16384x128 (k0_pay4 x T m) broadcasts_S1x128_S16384x128) := rfl

theorem pay19_at (r : Fin 16384) (b : Fin 128) : k0_pay19 (F := Ideal) (ix2 r b) = ((16777216 - (r.val : ℝ) : ℝ) : EReal) := by
  unfold k0_pay19
  exact code_apply (R := 16384) (by norm_num) _ r b

/-- The tile's step on a lane. -/
theorem lane_step : lane (St.step x k T σ) b = (lane σ b).step (tl x T b) (16384 * k.val) := by
  refine Lane.Row.ext ?_ ?_ ?_ ?_
  · exact (congrFun (pay12_at _) _).trans (pay4_at x T b σ.m)
  · refine (pay9_at _ _ b _).trans ?_
    rw [pay5_at]
    exact congrArg _ (Finset.sum_congr rfl fun r _ => pay6_at x T b σ.m r)
  · refine (pay10_at _ _ b _ _).trans ?_
    rw [pay5_at]
    exact congrArg _ (Finset.sum_congr rfl fun r _ => congrArg (· * _) (pay6_at x T b σ.m r))
  · unfold lane St.step
    dsimp only
    have h8 : ∀ y : S16384x128.Idx, k0_pay8 (F := Ideal) y = ⊥ := fun _ => mask_eq
    rw [pay7_eq, pay11_at _ _ _ _ _ _ _ _ _ pay19_at h8, pay3_at, pay2_at, pay4_at]
    rw [Lane.Row.step_i]

end Tile

end Cert.Proof.Sampler

end
-- ==== Proof.KernelIdeal.TailStep.lean ====
/-
Over the extended reals the last 1696 rows do to a lane of the kernel's four rows what the online pass does to a lane.
-/
module

public import proofs.«01_k».proof.Proof.KernelIdeal.LaneStep

@[expose] public section

noncomputable section

namespace Cert.Proof.Sampler

open Cert.KernelIdeal Cert.KernelIdeal.Gen
open Idealize.ShloMosaic Idealize.ShloMosaic.ValueIdx

variable (x : FVec Ideal S128x128 .f32) (T : Vec Ideal S1696x128 .f32) (σ : St Ideal) (b : Fin 128)

/-- Lane `b` of the tail's logits. -/
abbrev ll : Fin 1696 → EReal := fun r => k0_pay20 x T (ix2 r b)

theorem pay22_at : k0_pay22 x T (ix2 (0 : Fin 1) b) = Finset.univ.sup (ll x T b) := colMax (k0_pay20 x T) _ _ _ _ b
theorem pay23_at (m : FVec Ideal S1x128 .f32) : k0_pay23 x T m (ix2 (0 : Fin 1) b) = max (m (ix2 (0 : Fin 1) b)) (Finset.univ.sup (ll x T b)) := by
  show max _ (k0_pay22 x T (ix2 (0 : Fin 1) b)) = _
  rw [pay22_at]
theorem pay24_at (m : FVec Ideal S1x128 .f32) : k0_pay24 x T m (ix2 (0 : Fin 1) b) = Ideal.exp (m (ix2 (0 : Fin 1) b) - max (m (ix2 (0 : Fin 1) b)) (Finset.univ.sup (ll x T b))) := by
  show Ideal.exp (m (ix2 (0 : Fin 1) b) - k0_pay23 x T m (ix2 (0 : Fin 1) b)) = _
  rw [pay23_at]
theorem pay25_at (m : FVec Ideal S1x128 .f32) (r : Fin 1696) :
    k0_pay25 x T m (ix2 r b) = Ideal.exp (ll x T b r - max (m (ix2 (0 : Fin 1) b)) (Finset.univ.sup (ll x T b))) := by
  show Ideal.exp (k0_pay20 x T (ix2 r b) - broadcastTo S1696x128 (k0_pay23 x T m) broadcasts_S1x128_S1696x128 (ix2 r b)) = _
  rw [broadcastTo_1b_ab_apply, pay23_at]

theorem pay21_at : k0_pay21 (F := Ideal) = ((16777216 + (98304 : ℕ) : ℝ) : EReal) := by
  show Ideal.ofBits .f32 0x4B800000#32 + Ideal.ofBits .f32 0x47C00000#32 = _
  rw [lit_code, lit_tail, ← EReal.coe_add, Nat.cast_ofNat]

theorem pay26_at (m : FVec Ideal S1x128 .f32) :
    k0_pay26 x T m (ix2 (0 : Fin 1) b) = Finset.univ.sup (fun r : Fin 1696 =>
      if max (m (ix2 (0 : Fin 1) b)) (Finset.univ.sup (ll x T b)) ≤ ll x T b r then ((16777216 - (r.val : ℝ) : ℝ) : EReal) else ⊥) := by
  unfold k0_pay26
  refine (colCode (R := 1696) (k0_pay20 x T) (k0_pay23 x T m) _ (fun r b => code_apply (R := 1696) (by norm_num) _ r b) _ (fun _ => mask_eq)
    broadcasts_S1x128_S1696x128 reduces_S1696x128_S128 (.inl rfl) rfl shapeCasts_S128_S1x128 b).trans ?_
  rw [pay23_at]

theorem pay27_at (m : FVec Ideal S1x128 .f32) : k0_pay27 x T m (ix2 (0 : Fin 1) b)
    = ∑ r, Ideal.exp (ll x T b r - max (m (ix2 (0 : Fin 1) b)) (Finset.univ.sup (ll x T b))) * ll x T b r := by
  unfold k0_pay27
  refine (colSum (mulf (k0_pay25 x T m) (k0_pay20 x T)) _ _ _ _ b).trans ?_
  exact Finset.sum_congr rfl fun r _ => congrArg (· * _) (pay25_at x T b m r)

theorem pay28_at (m s : FVec Ideal S1x128 .f32) : k0_pay28 x T m s (ix2 (0 : Fin 1) b)
    = s (ix2 (0 : Fin 1) b) * Ideal.exp (m (ix2 (0 : Fin 1) b) - max (m (ix2 (0 : Fin 1) b)) (Finset.univ.sup (ll x T b)))
      + ∑ r, Ideal.exp (ll x T b r - max (m (ix2 (0 : Fin 1) b)) (Finset.univ.sup (ll x T b))) := by
  unfold k0_pay28
  rw [shapeCast_self, addf_apply, mulf_apply, pay24_at]
  refine congrArg _ ((colSum (k0_pay25 x T m) _ _ _ _ b).trans ?_)
  exact Finset.sum_congr rfl fun r _ => pay25_at x T b m r

theorem pay30_at (o : Ideal .f32) (t m c i : FVec Ideal S1x128 .f32) : k0_pay30 o t m c i (ix2 (0 : Fin 1) b)
    = if m (ix2 (0 : Fin 1) b) < t (ix2 (0 : Fin 1) b) then (o : EReal) - c (ix2 (0 : Fin 1) b) else i (ix2 (0 : Fin 1) b) := by
  unfold k0_pay30
  rw [shapeCast_self, select_apply, cmpf_apply, subf_apply, broadcast_apply]
  exact pick_at _ (m (ix2 (0 : Fin 1) b) < t (ix2 (0 : Fin 1) b)) rfl _ _

theorem pay29_at (a p u : FVec Ideal S1x128 .f32) : k0_pay29 a p u (ix2 (0 : Fin 1) b)
    = u (ix2 (0 : Fin 1) b) * a (ix2 (0 : Fin 1) b) + p (ix2 (0 : Fin 1) b) := by
  unfold k0_pay29
  rw [shapeCast_self, addf_apply, mulf_apply]

theorem pay31_at (m : FVec Ideal S1x128 .f32) : k0_pay31 m = m := by
  unfold k0_pay31
  exact shapeCast_self _ _

/-- The tail's step on a lane. -/
theorem lane_tail : lane (St.tail x T σ) b = (lane σ b).step (ll x T b) 98304 := by
  refine Lane.Row.ext ?_ ?_ ?_ ?_
  · exact (congrFun (pay31_at _) _).trans (pay23_at x T b σ.m)
  · exact pay28_at x T b σ.m σ.s
  · exact (pay29_at b _ _ _).trans (congrArg₂ (fun p q => _ * p + q) (pay24_at x T b σ.m) (pay27_at x T b σ.m))
  · unfold lane St.tail
    dsimp only
    rw [pay30_at, pay22_at, pay26_at, pay21_at, Lane.Row.step_i]

end Cert.Proof.Sampler
-- ==== Proof.KernelIdeal.Run.lean ====
/-
  The kernel's pass over the vocabulary, lane by lane: after the whole of it the four rows hold, for each row of
  features, the largest logit, the sum of exponentials, the weighted sum and the first place of the largest logit.
-/
module

public import proofs.«01_k».proof.Proof.KernelIdeal.TailStep
public import Idealize.ShloMosaic.Lib.MatmulPlain

@[expose] public section

noncomputable section

namespace Cert.Proof.Sampler

open Cert.KernelIdeal Cert.KernelIdeal.Gen
open Idealize.ShloMosaic Idealize.ShloMosaic.ValueIdx

variable (XA : S100000x128.Idx → EReal) (x : FVec Ideal S128x128 .f32) (b : Fin 128)

/-- The logit of vocabulary entry `v` in lane `b`; beyond the vocabulary, nothing. -/
def logit (v : ℕ) : EReal := if h : v < 100000 then ∑ d : Fin 128, XA (ix2 ⟨v, h⟩ d) * x (ix2 d b) else ⊥

theorem tileDot : dot_S16384x128_S128x128_S16384x128_1_0_0_1_n_n = DotDims.plain 16384 128 128 := rfl
theorem tailDot : dot_S1696x128_S128x128_S1696x128_1_0_0_1_n_n = DotDims.plain 1696 128 128 := rfl

theorem tl_eq (g : Fin 6) : tl x (tileVec (F := Ideal) XA g) b = fun r : Fin 16384 => logit XA x b (16384 * g.val + r.val) := by
  funext r
  have hv : 16384 * g.val + r.val < 100000 := by have := g.isLt; have := r.isLt; omega
  unfold tl k0_pay1 logit
  rw [dif_pos hv]
  refine (congrArg (fun D => FloatOps.matmul D none _ x _ (ix2 r b)) tileDot).trans ?_
  rw [Ideal.matmul_plain_apply]
  refine (congrArg₂ (· + ·) Ideal.ofBits_zero_f32 (Finset.sum_congr rfl fun d _ => ?_)).trans (zero_add _)
  rw [shapeCast_1ab_ab_apply]
  rfl

theorem ll_eq : ll x (tailVec (F := Ideal) XA) b = fun r : Fin 1696 => logit XA x b (98304 + r.val) := by
  funext r
  have hv : 98304 + r.val < 100000 := by have := r.isLt; omega
  unfold ll k0_pay20 logit
  rw [dif_pos hv]
  refine (congrArg (fun D => FloatOps.matmul D none _ x _ (ix2 r b)) tailDot).trans ?_
  rw [Ideal.matmul_plain_apply]
  exact (congrArg₂ (· + ·) Ideal.ofBits_zero_f32 rfl).trans (zero_add _)

/-- After `k` tiles each lane is right about the first `16384 * k` logits. -/
theorem run_good (hL : ∀ v, logit XA x b v ≠ ⊤) : ∀ k ≤ 6, Lane.Good (logit XA x b) (16384 * k) (lane (St.run x XA k) b)
  | 0, _ => by
    have h : lane (St.run x XA 0) b = Lane.Row.init := lane_init b
    rw [h, Nat.mul_zero]
    exact Lane.good_init _
  | k + 1, hk => by
    have hk' : k < k0_t1_loop.trips := hk
    have h : St.run x XA (k + 1) = St.step x ⟨k, hk'⟩ (tileVec XA (Ring.bk 6 k)) (St.run x XA k) := dif_pos hk'
    have hb : (Ring.bk 6 k).val = k := Nat.mod_eq_of_lt hk
    rw [h, lane_step, tl_eq, hb, Nat.mul_succ]
    exact Lane.good_step _ hL (run_good hL k (Nat.le_of_succ_le hk))

/-- After the whole vocabulary each lane is right about all the logits. -/
theorem final_good (X : Vec Ideal S128x128 .f32) (hL : ∀ v, logit XA X b v ≠ ⊤) : Lane.Good (logit XA X b) 100000 (lane (St.final X XA) b) := by
  have h18 : k0_pay18 X = X := by unfold k0_pay18; exact shapeCast_self _ _
  unfold St.final
  rw [h18, lane_tail, ll_eq]
  have h : Lane.Good (logit XA X b) 98304 (lane (St.run X XA 6) b) := run_good XA X b hL 6 le_rfl
  exact Lane.good_step (R := 1696) _ hL h

end Cert.Proof.Sampler
-- ==== Proof.KernelIdeal.Results.lean ====
/-
  The kernel's three results in terms of the state its sweep ends in: the message of place and distance, the logarithm
  of the chosen probability and the entropy.
-/
module

public import proofs.«01_k».proof.Proof.KernelIdeal.Arrays
public import proofs.«01_k».proof.Proof.KernelIdeal.Run
public import proofs.«01_k».proof.Proof.KernelIdeal.Frame

@[expose] public section

set_option maxRecDepth 16384

noncomputable section

namespace Cert.Proof.Sampler

open Cert.KernelIdeal Cert.KernelIdeal.Gen
open Idealize.ShloMosaic hiding ix1 ix2 subf_apply addf_apply mulf_apply
open Idealize.ShloMosaic.ValueIdx
open Idealize.ShloMosaic.TcCoe Idealize.ShloMosaic.Tactic

section Host
variable {F : FTy → Type} [FloatOps F] [Named F]

/-- What the operations after the launch make of the arrays it leaves. -/
theorem after_message (V : Valuation τ sig (Elt F)) : StableHlo.after [hostOps1].flatten V (Proc.devRef .tc main_v4)
    = transpose S128x2 [1, 0] (concatenate S2x128 0 [⟨S1x128, V (Proc.devRef .tc main_v2_0)⟩, ⟨S1x128, V (Proc.devRef .tc main_v2_1)⟩]
        concatenates_S1x128_S1x128_S2x128_d0) transposes_S2x128_S128x2_1_0 := by
  unfold hostOps1
  simp only [List.flatten_cons, List.flatten_nil, List.append_nil]
  after_results
theorem after_logp (V : Valuation τ sig (Elt F)) : StableHlo.after [hostOps1].flatten V (Proc.devRef .tc main_v5)
    = shapeCast S128 (V (Proc.devRef .tc main_v2_2)) shapeCasts_S1x128_S128 := by
  unfold hostOps1
  simp only [List.flatten_cons, List.flatten_nil, List.append_nil]
  after_results
  rfl
theorem after_entropy (V : Valuation τ sig (Elt F)) : StableHlo.after [hostOps1].flatten V (Proc.devRef .tc main_v6)
    = shapeCast S128 (V (Proc.devRef .tc main_v2_3)) shapeCasts_S1x128_S128 := by
  unfold hostOps1
  simp only [List.flatten_cons, List.flatten_nil, List.append_nil]
  after_results
  rfl

theorem arrays_distinct : Function.Injective (Pipeline.arrRef spec0) := by decide

variable (m : (ℓ : Loc nD τ sig) → Buf (Elt F) ℓ) (c : Dev nD)

/-- The arrays once the launch has written its results. -/
abbrev posted : Valuation τ sig (Elt F) := Pipeline.withArrays spec0 c (V0 m c) fun w => (dats m 0 c).arrAt w cfg0.N

theorem posted_place : posted m c (Proc.devRef .tc main_v2_0) = (St.final (XT m c t0_0) (XA m c)).i :=
  (Pipeline.withArrays_arr spec0 arrays_distinct c (V0 m c) _ 2).trans (arr2 m c)
theorem posted_distance : posted m c (Proc.devRef .tc main_v2_1) = k0_pay13 (XT m c t0_0) (XD m c t0_0) :=
  (Pipeline.withArrays_arr spec0 arrays_distinct c (V0 m c) _ 3).trans (arr3 m c)
theorem posted_logp : posted m c (Proc.devRef .tc main_v2_2) = k0_pay33 (St.final (XT m c t0_0) (XA m c)).s :=
  (Pipeline.withArrays_arr spec0 arrays_distinct c (V0 m c) _ 4).trans (arr4 m c)
theorem posted_entropy : posted m c (Proc.devRef .tc main_v2_3)
    = k0_pay34 (St.final (XT m c t0_0) (XA m c)).s (St.final (XT m c t0_0) (XA m c)).m (St.final (XT m c t0_0) (XA m c)).u :=
  (Pipeline.withArrays_arr spec0 arrays_distinct c (V0 m c) _ 5).trans (arr5 m c)

end Host

section Values
variable (x w : FVec Ideal S128x128 .f32) (s t u : FVec Ideal S1x128 .f32) (b : Fin 128)

theorem pay13_at (x : FVec Ideal S128x128 .f32) (w : FVec Ideal S128x1 .f32) :
    k0_pay13 x w (ix2 (0 : Fin 1) b) = ∑ d : Fin 128, x (ix2 d b) * w (ix2 d (0 : Fin 1)) := by
  unfold k0_pay13
  refine (colSum _ _ _ _ _ b).trans (Finset.sum_congr rfl fun d _ => ?_)
  rw [shapeCast_self, mulf_apply]
  refine congrArg (x (ix2 d b) * ·) (congrArg w (funext fun a => ?_))
  match a with
  | ⟨0, _⟩ => exact Fin.ext rfl
  | ⟨1, _⟩ => exact Fin.ext rfl

theorem pay33_at : k0_pay33 (F := Ideal) s (ix2 (0 : Fin 1) b) = 0 - Ideal.log (s (ix2 (0 : Fin 1) b)) := by
  unfold k0_pay33
  rw [subf_apply, broadcast_apply]
  exact congrArg (· - _) Ideal.ofBits_zero_f32

theorem pay34_at : k0_pay34 s t u (ix2 (0 : Fin 1) b)
    = t (ix2 (0 : Fin 1) b) + Ideal.log (s (ix2 (0 : Fin 1) b)) - Ideal.div (u (ix2 (0 : Fin 1) b)) (s (ix2 (0 : Fin 1) b)) := by
  unfold k0_pay34
  rw [subf_apply, addf_apply]
  rfl

theorem lane_i (σ : St Ideal) : (lane σ b).i = σ.i (ix2 (0 : Fin 1) b) := rfl

end Values

variable (m : (ℓ : Loc nD τ sig) → Buf (Elt Ideal) ℓ) (c : Dev nD) (b : Fin 128)

/-- The lane the sweep ends in for row `b` of the input. -/
abbrev ended : Lane.Row := lane (St.final (XT m c t0_0) (XA m c)) b

variable {m}
variable {r : PUnit × MemSt nD τ sig (Elt Ideal)} (h : Ends m r)

include h

/-- The message's first column is the place. -/
theorem message_place : r.2.mem ((c : Thread nD τ).loc main_v4) (ix2 b (0 : Fin 2)) = (ended m c b).i := by
  rw [(h.1 c).2 main_v4 (Pipeline.mem_restRefs_of main_v4 (by decide) (by decide)), after_message, transpose_ix2_apply,
    concatenate_pair_apply_left (t := S2x128) (s₁ := S1x128) (s₂ := S1x128) 0 _ _ _ _ rfl (ix2 (0 : Fin 1) b)
      (fun a => by match a with | ⟨0, _⟩ => rfl | ⟨1, _⟩ => rfl)]
  exact (congrFun (posted_place m c) (ix2 (0 : Fin 1) b)).trans (lane_i b _).symm
/-- The message's second column is the distance. -/
theorem message_distance : r.2.mem ((c : Thread nD τ).loc main_v4) (ix2 b (1 : Fin 2))
    = ∑ d : Fin 128, XT m c t0_0 (ix2 d b) * XD m c t0_0 (ix2 d (0 : Fin 1)) := by
  rw [(h.1 c).2 main_v4 (Pipeline.mem_restRefs_of main_v4 (by decide) (by decide)), after_message, transpose_ix2_apply,
    concatenate_pair_apply_right (t := S2x128) (s₁ := S1x128) (s₂ := S1x128) 0 _ _ _ _ rfl rfl (ix2 (0 : Fin 1) b)
      (fun a ha => by match a with | ⟨0, _⟩ => exact absurd rfl ha | ⟨1, _⟩ => rfl) rfl]
  exact (congrFun (posted_distance m c) _).trans (pay13_at b _ _)
/-- The logarithm of the chosen probability. -/
theorem logp_at : r.2.mem ((c : Thread nD τ).loc main_v5) (ix1 b) = 0 - Ideal.log (ended m c b).s := by
  rw [(h.1 c).2 main_v5 (Pipeline.mem_restRefs_of main_v5 (by decide) (by decide)), after_logp, shapeCast_1a_a_apply]
  exact (congrFun (posted_logp m c) _).trans (pay33_at _ b)
/-- The entropy. -/
theorem entropy_at : r.2.mem ((c : Thread nD τ).loc main_v6) (ix1 b)
    = (ended m c b).m + Ideal.log (ended m c b).s - Ideal.div (ended m c b).u (ended m c b).s := by
  rw [(h.1 c).2 main_v6 (Pipeline.mem_restRefs_of main_v6 (by decide) (by decide)), after_entropy, shapeCast_1a_a_apply]
  exact (congrFun (posted_entropy m c) _).trans (pay34_at _ _ _ b)

end Cert.Proof.Sampler

end
-- ==== Proof.Reference.Best.lean ====
/-
  The reference's arg-max over the extended reals: in a row whose largest logit is above minus infinity it is the
  first place of the largest.
-/
module

public import proofs.«01_k».proof.Proof.Reference.Rows

@[expose] public section

noncomputable section

namespace Cert.Proof.Plain

open Cert.ReferenceIdeal Cert.ReferenceIdeal.Gen
open Idealize.ShloMosaic Idealize.ShloMosaic.ValueIdx

/-- A pair that the reducer keeps before another: a larger value, or the same value at a place no later. -/
def Before (p q : EReal × BitVec 32) : Prop := q.1 < p.1 ∨ q.1 = p.1 ∧ p.2.toInt ≤ q.2.toInt

theorem Before.refl (p : EReal × BitVec 32) : Before p p := .inr ⟨rfl, le_rfl⟩
theorem Before.trans {p q r : EReal × BitVec 32} (h : Before p q) (k : Before q r) : Before p r := by
  rcases h with h | ⟨h, h'⟩ <;> rcases k with k | ⟨k, k'⟩
  · exact .inl (k.trans h)
  · exact .inl (k ▸ h)
  · exact .inl (h ▸ k)
  · exact .inr ⟨k.trans h, h'.trans k'⟩

/-- The reducer as a choice of one of its two pairs. -/
theorem reducer_eq (p q : EReal × BitVec 32) : reducer_argmax_f32_i32 (F := Ideal) p q
    = (if q.1 < p.1 then p.1 else q.1, if q.1 < p.1 ∨ p.1 = q.1 ∧ p.2.toInt < q.2.toInt then p.2 else q.2) := by
  have hne : (FloatOps.cmpf (F := Ideal) (φ := .f32) .une p.1 p.1) = 0#1 := by
    show BitVec.ofBool (decide (p.1 ≠ p.1)) = _
    simp
  have hgt : (FloatOps.cmpf (F := Ideal) (φ := .f32) .ogt p.1 q.1) = BitVec.ofBool (decide (q.1 < p.1)) := rfl
  have heq : (FloatOps.cmpf (F := Ideal) (φ := .f32) .oeq p.1 q.1) = BitVec.ofBool (decide (p.1 = q.1)) := rfl
  have hlt : IntOp.cmpi .slt p.2 q.2 = BitVec.ofBool (decide (p.2.toInt < q.2.toInt)) := rfl
  unfold reducer_argmax_f32_i32
  dsimp only
  rw [hne, hgt, heq, hlt]
  by_cases h1 : q.1 < p.1 <;> by_cases h2 : p.1 = q.1 <;> by_cases h3 : p.2.toInt < q.2.toInt <;>
    simp [h1, h2, h3, IntOp.ori, IntOp.andi, Scalar.select]

theorem reducer_spec (p q : EReal × BitVec 32) :
    (reducer_argmax_f32_i32 (F := Ideal) p q = p ∨ reducer_argmax_f32_i32 (F := Ideal) p q = q)
      ∧ Before (reducer_argmax_f32_i32 (F := Ideal) p q) p ∧ Before (reducer_argmax_f32_i32 (F := Ideal) p q) q := by
  rw [reducer_eq]
  obtain ⟨a, i⟩ := p
  obtain ⟨b, j⟩ := q
  dsimp only
  rcases lt_trichotomy a b with h | rfl | h
  · have h' : ¬b < a := h.asymm
    rw [if_neg h', if_neg (by rintro (k | ⟨k, -⟩); exacts [h' k, h.ne k])]
    exact ⟨.inr rfl, .inl h, .refl _⟩
  · rw [if_neg (lt_irrefl a)]
    by_cases hk : i.toInt < j.toInt
    · rw [if_pos (.inr ⟨rfl, hk⟩)]
      exact ⟨.inl rfl, .refl _, .inr ⟨rfl, hk.le⟩⟩
    · rw [if_neg (by rintro (k | ⟨-, k⟩); exacts [lt_irrefl a k, hk k])]
      exact ⟨.inr rfl, .inr ⟨rfl, not_lt.mp hk⟩, .refl _⟩
  · rw [if_pos h, if_pos (.inl h)]
    exact ⟨.inl rfl, .refl _, .inl h⟩

/-- Folding the reducer over a list keeps one of the pairs met, and one before every pair met. -/
theorem foldl_spec (l : List (EReal × BitVec 32)) : ∀ init : EReal × BitVec 32,
    (l.foldl (reducer_argmax_f32_i32 (F := Ideal)) init = init ∨ l.foldl (reducer_argmax_f32_i32 (F := Ideal)) init ∈ l)
      ∧ Before (l.foldl (reducer_argmax_f32_i32 (F := Ideal)) init) init
      ∧ ∀ q ∈ l, Before (l.foldl (reducer_argmax_f32_i32 (F := Ideal)) init) q := by
  induction l with
  | nil => exact fun init => ⟨.inl rfl, .refl _, fun q h => absurd h List.not_mem_nil⟩
  | cons a l ih =>
    intro init
    obtain ⟨h1, h2, h3⟩ := ih (reducer_argmax_f32_i32 (F := Ideal) init a)
    obtain ⟨k1, k2, k3⟩ := reducer_spec init a
    rw [List.foldl_cons]
    refine ⟨?_, h2.trans k2, fun q hq => ?_⟩
    · rcases h1 with h1 | h1
      · rcases k1 with k1 | k1
        · exact .inl (h1.trans k1)
        · exact .inr (by rw [h1, k1]; exact List.mem_cons_self)
      · exact .inr (List.mem_cons_of_mem _ h1)
    · rcases List.mem_cons.mp hq with rfl | hq
      · exact h2.trans k3
      · exact h3 q hq

section Generic
variable {R : ℕ} (A : FVec Ideal ⟨2, ![128, R]⟩ .f32) (b : Fin 128)

/-- A row's pairs are its values with their places. -/
theorem mem_fiber (h' : Shape.ReducesTo ⟨2, ![128, R]⟩ [1] S128) (h : Shape.Reduces ⟨2, ![128, R]⟩ [1] S128) (p : EReal × BitVec 32) :
    p ∈ Host.argReduceFiber A (iotaInDim ⟨2, ![128, R]⟩ 32 1) h' (ix1 b) ↔ ∃ v : Fin R, p = (A (ix2 b v), BitVec.ofNat 32 v.val) := by
  unfold Host.argReduceFiber
  simp only [List.mem_map, List.mem_filter, List.mem_finRange, true_and, decide_eq_true_eq]
  constructor
  · rintro ⟨n, hn, rfl⟩
    have e := h.lift_drop ((Shape.rowMajor ⟨2, ![128, R]⟩).symm n)
    rw [← Shape.ReducesTo.drop_eq_drop h' h, hn] at e
    refine ⟨(Shape.rowMajor ⟨2, ![128, R]⟩).symm n 1, ?_⟩
    have k := (lift_col h b _).symm.trans e
    exact (congrArg (fun i => (A i, iotaInDim ⟨2, ![128, R]⟩ 32 1 i)) k).symm
  · rintro ⟨v, rfl⟩
    refine ⟨Shape.rowMajor ⟨2, ![128, R]⟩ (ix2 b v), ?_, ?_⟩
    · rw [Equiv.symm_apply_apply, Shape.ReducesTo.drop_eq_drop h' h, ← lift_col h b]
      exact h.drop_lift (ix1 b) v
    · rw [Equiv.symm_apply_apply]
      rfl

theorem arg_first (hR : R < 2147483648) (h' : Shape.ReducesTo ⟨2, ![128, R]⟩ [1] S128) (h : Shape.Reduces ⟨2, ![128, R]⟩ [1] S128) (ix : FVec Ideal S_ .f32)
    (iy : IVec S_ 32) (hix : ∀ i, ix i = ⊥) (hu) (B : IVec S128 32)
    (hB : B = fun j => (Host.argReduce reducer_argmax_f32_i32 A (iotaInDim ⟨2, ![128, R]⟩ 32 1) ix iy h' hu j).2)
    (m : EReal) (hm : Finset.univ.sup (fun v : Fin R => A (ix2 b v)) = m) (hb : m ≠ ⊥) :
    ∃ v : Fin R, B (ix1 b) = BitVec.ofNat 32 v.val
      ∧ A (ix2 b v) = m ∧ ∀ w : Fin R, w < v → A (ix2 b w) < m := by
  rw [hB]
  dsimp only
  rw [Ideal.argReduce_eq_reduce2, Host.reduce2_eq_foldl_fiber, hix]
  obtain ⟨h1, h2, h3⟩ := foldl_spec (Host.argReduceFiber A (iotaInDim ⟨2, ![128, R]⟩ 32 1) h' (ix1 b)) (⊥, iy (Shape.Idx.first hu))
  generalize (Host.argReduceFiber A (iotaInDim ⟨2, ![128, R]⟩ 32 1) h' (ix1 b)).foldl (reducer_argmax_f32_i32 (F := Ideal)) (⊥, iy (Shape.Idx.first hu)) = p at h1 h2 h3
  have hall : ∀ v : Fin R, Before p (A (ix2 b v), BitVec.ofNat 32 v.val) := fun v => h3 _ ((mem_fiber A b h' h _).mpr ⟨v, rfl⟩)
  have hle : m ≤ p.1 := by
    rw [← hm]
    refine Finset.sup_le fun v _ => ?_
    rcases hall v with k | ⟨k, -⟩
    · exact k.le
    · exact k.le
  have hp : p ∈ Host.argReduceFiber A (iotaInDim ⟨2, ![128, R]⟩ 32 1) h' (ix1 b) := by
    rcases h1 with h1 | h1
    · rw [h1] at hle
      exact absurd (le_bot_iff.mp hle) hb
    · exact h1
  obtain ⟨v, rfl⟩ := (mem_fiber A b h' h _).mp hp
  have hv : A (ix2 b v) = m := le_antisymm (hm ▸ Finset.le_sup (f := fun v : Fin R => A (ix2 b v)) (Finset.mem_univ v)) hle
  have ti : ∀ w : Fin R, (BitVec.ofNat 32 w.val).toInt = (w.val : ℤ) := fun w => by
    have := w.isLt
    have hn : (BitVec.ofNat 32 w.val).toNat = w.val := by
      rw [BitVec.toNat_ofNat]
      exact Nat.mod_eq_of_lt (by omega)
    rw [BitVec.toInt_eq_toNat_of_lt (by omega), hn]
  refine ⟨v, rfl, hv, fun w hw => ?_⟩
  rcases hall w with k | ⟨-, k⟩
  · exact hv ▸ k
  · dsimp only at k
    rw [ti, ti] at k
    exact absurd (Int.ofNat_le.mp k) (not_le.mpr hw)

end Generic

/-- The reference's place is the first of the row's largest logit. -/
theorem best_at (A : FVec Ideal S128x100000 .f32) (b : Fin 128) (m : EReal) (hm : Finset.univ.sup (fun v : Fin 100000 => A (ix2 b v)) = m) (hb : m ≠ ⊥) :
    ∃ v : Fin 100000, best A (ix1 b) = BitVec.ofNat 32 v.val ∧ A (ix2 b v) = m ∧ ∀ w : Fin 100000, w < v → A (ix2 b w) < m :=
  arg_first (R := 100000) A b (by decide) reducesTo_S128x100000_S128_d1 reducesRow (constant S_ .f32 0xFF800000#32) (constantI S_ 32 0#32)
    (fun _ => word_bot) h_S_ (best A) rfl m hm hb

end Cert.Proof.Plain
-- ==== Proof.Reference.Taken.lean ====
/-
  The reference's reading of a row at a place that lies in the row, and the columns of its message.
-/
module

public import proofs.«01_k».proof.Proof.Reference.Rows

@[expose] public section

noncomputable section

namespace Cert.Proof.Plain

open Cert.ReferenceIdeal Cert.ReferenceIdeal.Gen
open Idealize.ShloMosaic Idealize.ShloMosaic.ValueIdx

/-- A gather that pairs row `b` of the operand with row `b` of the places reads the operand at that row's place. -/
theorem gather_row {α : Type} {B N : ℕ} (d : GatherDims ⟨2, ![B, N]⟩ ⟨3, ![B, 1, 1]⟩ ⟨2, ![B, 1]⟩) (ho : d.offsetDims = []) (hc : d.collapsedSliceDims = [1])
    (hb : d.operandBatchingDims = [0]) (hs : d.startIndicesBatchingDims = [0]) (hm : d.startIndexMap = [1]) (hv : d.indexVectorDim = 2)
    (hz : d.sliceSizes = ![1, 1]) (x : (⟨2, ![B, N]⟩ : Shape).Idx → α) (p : IVec ⟨3, ![B, 1, 1]⟩ 32) (b : Fin B) (v : Fin N)
    (hp : (p (ix3 b 0 0)).toInt = (v.val : ℤ)) : Host.gather d x p (ix2 b (0 : Fin 1)) = x (ix2 b v) := by
  obtain ⟨_, _, _, _, _, _, _, wf⟩ := d
  dsimp only at ho hc hb hs hm hv hz
  subst ho hc hb hs hm hv hz
  set D : GatherDims ⟨2, ![B, N]⟩ ⟨3, ![B, 1, 1]⟩ ⟨2, ![B, 1]⟩ := ⟨[], [1], [0], [0], [1], 2, ![1, 1], wf⟩ with hD
  refine congrArg x (funext fun a => Fin.ext ?_)
  show D.start (ix2 b 0) p a + D.batchCoord (ix2 b 0) a + D.offCoord (ix2 b 0) a = _
  have off : D.offCoord (ix2 b 0) a = 0 := D.offCoord_eq_zero _ _ fun k => by
    have k := (D.mem_sKept a).mp k
    match a with
    | ⟨0, _⟩ => exact k.2 (List.mem_singleton.mpr rfl)
    | ⟨1, _⟩ => exact k.1 (List.mem_singleton.mpr rfl)
  rw [off, Nat.add_zero]
  match a with
  | ⟨0, _⟩ =>
    have s0 : D.start (ix2 b 0) p (0 : Fin 2) = 0 := D.start_batching _ _ _ (List.mem_singleton.mpr rfl)
    refine (congrArg (· + D.batchCoord (ix2 b 0) (0 : Fin 2)) s0).trans ?_
    rw [Nat.zero_add]
    unfold GatherDims.batchCoord
    rw [dif_pos (List.mem_singleton.mpr rfl)]
    rfl
  | ⟨1, _⟩ =>
    have b0 : D.batchCoord (ix2 b 0) (1 : Fin 2) = 0 := D.batchCoord_eq_zero _ _ fun k => by
      simp [hD] at k
    refine (congrArg (D.start (ix2 b 0) p (1 : Fin 2) + ·) b0).trans ?_
    rw [Nat.add_zero]
    unfold GatherDims.start
    rw [dif_pos (List.mem_singleton.mpr rfl)]
    have si : D.siIdx (ix2 b 0) ⟨D.startIndexMap.idxOf (1 : Fin 2), List.idxOf_lt_length_iff.2 (List.mem_singleton.mpr rfl)⟩ = ix3 b 0 0 := by
      funext c
      match c with
      | ⟨0, _⟩ => exact Fin.ext rfl
      | ⟨1, _⟩ => exact Fin.ext rfl
      | ⟨2, _⟩ => exact Fin.ext rfl
    rw [si, hp]
    show min (v.val : ℤ).toNat (N - 1) = v.val
    have := v.isLt
    omega

theorem slt_zero (a b : BitVec 32) (h : b.toInt ≤ a.toInt) : IntOp.cmpi .slt a b = 0#1 := by
  show BitVec.ofBool (decide (a.toInt < b.toInt)) = _
  simp [not_lt.mpr h]
theorem sge_one (a b : BitVec 32) (h : b.toInt ≤ a.toInt) : IntOp.cmpi .sge a b = 1#1 := by
  show BitVec.ofBool (decide (b.toInt ≤ a.toInt)) = _
  simp [h]
theorem sle_one (a b : BitVec 32) (h : a.toInt ≤ b.toInt) : IntOp.cmpi .sle a b = 1#1 := by
  show BitVec.ofBool (decide (a.toInt ≤ b.toInt)) = _
  simp [h]

/-- A place of a row as a word reads back as itself. -/
theorem word_toInt {R : ℕ} (hR : R < 2147483648) (v : Fin R) : (BitVec.ofNat 32 v.val).toInt = (v.val : ℤ) := by
  have := v.isLt
  have hn : (BitVec.ofNat 32 v.val).toNat = v.val := by
    rw [BitVec.toNat_ofNat]
    exact Nat.mod_eq_of_lt (by omega)
  rw [BitVec.toInt_eq_toNat_of_lt (by omega), hn]

/-- A place not negative is left as it is. -/
theorem places_at (i : IVec S128x1 32) (b : Fin 128) (h : 0 ≤ (i (ix2 b (0 : Fin 1))).toInt) : places i (ix3 b 0 0) = i (ix2 b (0 : Fin 1)) := by
  unfold places
  rw [shapeCast_apply _ _ _ (ix2 b (0 : Fin 1)) (by rw [Shape.rowMajor_val_two, Shape.rowMajor_val_three]; show b.val * 1 + 0 = (b.val * 1 + 0) * 1 + 0; omega),
    select_apply]
  have c : cmpi .slt i (broadcastInDim S128x1 ![] bcast_S_S128x1 (constantI S_ 32 0#32)) (ix2 b (0 : Fin 1)) = 0#1 := slt_zero _ 0#32 h
  rw [c]
  rfl

theorem reducesLast : S128x1x1.Reduces [2] S128x1 := by decide

/-- A conjunction of ones is one. -/
theorem fold_ones {n : ℕ} (g : Fin n → BitVec 1) (h : ∀ k, g k = 1#1) : (Finset.univ : Finset (Fin n)).fold IntOp.andi 1#1 g = 1#1 := by
  induction (Finset.univ : Finset (Fin n)) using Finset.induction_on with
  | empty => rfl
  | insert a t ha ih => rw [Finset.fold_insert ha, ih, h]; rfl

/-- A place in the row is found to lie in it. -/
theorem inside_at (p : IVec S128x1x1 32) (b : Fin 128) (h0 : 0 ≤ (p (ix3 b 0 0)).toInt) (h1 : (p (ix3 b 0 0)).toInt ≤ (99999#32).toInt) :
    inside p (ix2 b (0 : Fin 1)) = 1#1 := by
  unfold inside
  refine (Host.reduce_eq_fold_single IntOp.andi _ _ reducesTo_S128x1x1_S128x1_d2 reducesLast h_S_ (ix2 b (0 : Fin 1))).trans ?_
  refine fold_ones _ fun k => ?_
  have e : reducesLast.lift (ix2 b (0 : Fin 1)) k = ix3 b 0 0 := by
    funext c
    match c with
    | ⟨0, _⟩ => exact Fin.ext rfl
    | ⟨1, _⟩ => exact Fin.ext rfl
    | ⟨2, _⟩ => exact Subsingleton.elim (α := Fin 1) _ _
  rw [Function.comp_apply, e]
  have l : cmpi .sge p (broadcastInDim S128x1x1 ![] bcast_S_S128x1x1 (constantI S_ 32 0#32)) (ix3 b 0 0) = 1#1 := sge_one _ 0#32 h0
  have r : cmpi .sle p (broadcastInDim S128x1x1 ![0, 1, 2] bcast_S1x1x1_S128x1x1_0_1_2 (broadcastInDim S1x1x1 ![2] bcast_S1_S1x1x1_2 (constantI S1 32 99999#32)))
      (ix3 b 0 0) = 1#1 := sle_one _ 99999#32 h1
  exact (congrArg₂ IntOp.andi l r).trans rfl

/-- Reading a row at a place in it. -/
theorem taken_at (P : FVec Ideal S128x100000 .f32) (i : IVec S128 32) (b : Fin 128) (v : Fin 100000) (h : i (ix1 b) = BitVec.ofNat 32 v.val) :
    taken P (column i) (ix2 b (0 : Fin 1)) = P (ix2 b v) := by
  have hi : (column i (ix2 b (0 : Fin 1))).toInt = (v.val : ℤ) := by
    rw [column_at, h, word_toInt (by decide)]
  have hp : places (column i) (ix3 b 0 0) = column i (ix2 b (0 : Fin 1)) := places_at _ b (by omega)
  have hn : (99999#32).toInt = 99999 := by decide
  have := v.isLt
  unfold taken
  rw [select_apply, inside_at _ b (by rw [hp, hi]; omega) (by rw [hp, hi, hn]; omega),
    gather_row _ rfl rfl rfl rfl rfl rfl rfl P _ b v (by rw [hp, hi])]
  rfl

/-- The message's first column is the place as a number. -/
theorem message_place (i : IVec S128 32) (d : FVec Ideal S128x1 .f32) (b : Fin 128) (v : Fin 100000) (h : i (ix1 b) = BitVec.ofNat 32 v.val) :
    message i d (ix2 b (0 : Fin 2)) = ((v.val : ℝ) : EReal) := by
  unfold message
  rw [concatenate_pair_apply_left (t := S128x2) (s₁ := S128x1) (s₂ := S128x1) 1 _ _ _ _ rfl (ix2 b (0 : Fin 1)) (fun c => by match c with | ⟨0, _⟩ => rfl | ⟨1, _⟩ => rfl), column_at]
  show (((i (ix1 b)).toInt : ℝ) : EReal) = _
  rw [h, word_toInt (by decide)]
  norm_cast

/-- The message's second column is the distance. -/
theorem message_distance (i : IVec S128 32) (d : FVec Ideal S128x1 .f32) (b : Fin 128) : message i d (ix2 b (1 : Fin 2)) = d (ix2 b (0 : Fin 1)) := by
  unfold message
  rw [concatenate_pair_apply_right (t := S128x2) (s₁ := S128x1) (s₂ := S128x1) 1 _ _ _ _ rfl rfl (ix2 b (0 : Fin 1)) (fun c hc => by match c with | ⟨0, _⟩ => rfl | ⟨1, _⟩ => exact absurd rfl hc) rfl,
    column_at]
  exact shapeCast_apply _ _ _ _ (by rw [Shape.rowMajor_val_two, Shape.rowMajor_val_one]; show b.val * 1 + 0 = b.val; omega)

end Cert.Proof.Plain
-- ==== Proof.Equation.lean ====
/-
  The kernel's three results are the reference's, over the extended reals, wherever the precondition holds.
-/
module

public import proofs.«01_k».proof.Defs
public import proofs.«01_k».proof.Proof.Precondition
public import proofs.«01_k».proof.Proof.Lane.Softmax
public import proofs.«01_k».proof.Proof.KernelIdeal.Results
public import proofs.«01_k».proof.Proof.Reference.Best
public import proofs.«01_k».proof.Proof.Reference.Taken

@[expose] public section

set_option maxRecDepth 16384

noncomputable section

namespace Cert.Proof.Equation

open Cert.KernelIdeal Cert.KernelIdeal.Gen
open Idealize.ShloMosaic hiding ix1 ix2
open Idealize.ShloMosaic.ValueIdx
open Idealize.ShloMosaic.TcCoe

variable (m : (ℓ : Loc nD τ sig) → Buf (Elt Ideal) ℓ) (c : Dev nD)

/-- The reference's logits of the kernel's arguments. -/
abbrev logits : FVec Ideal ⟨2, ![128, 100000]⟩ .f32 :=
  Plain.logits (m ((c : Thread nD τ).loc main_arg0)) (m ((c : Thread nD τ).loc main_arg1)) (m ((c : Thread nD τ).loc main_arg2))
/-- The reference's distances of the kernel's arguments. -/
abbrev distance : FVec Ideal ⟨2, ![128, 1]⟩ .f32 :=
  Plain.distance (m ((c : Thread nD τ).loc main_arg0)) (m ((c : Thread nD τ).loc main_arg3)) (m ((c : Thread nD τ).loc main_arg4))

/-- The bias of the places. -/
abbrev placeBias : FVec Ideal ⟨1, ![100000]⟩ .f32 := m ((c : Thread nD τ).loc main_arg2)
/-- The bias of the distance. -/
abbrev distanceBias : FVec Ideal ⟨1, ![1]⟩ .f32 := m ((c : Thread nD τ).loc main_arg4)

/-- What the precondition gives: zero biases and a real number as each row's largest logit. -/
structure Fine : Prop where
  bias : ∀ i, placeBias m c i = 0
  dist : ∀ i, distanceBias m c i = 0
  top : ∀ b : Fin 128, ∃ μ : ℝ, Finset.univ.sup (fun v : Fin 100000 => logits m c (ix2 b v)) = (μ : EReal)

theorem fine [Cert.Pre_finite_unbiased.Facts] (h : Cert.Pre_KernelIdeal_finite_unbiased m) : Fine m c := by
  obtain ⟨h1, h2, h3⟩ := h c
  have h0 := Unbiased.bias_zero _ _ _ _ _ h2
  refine ⟨h0, Unbiased.distance_bias_zero _ _ _ _ _ h3, fun b => ?_⟩
  obtain ⟨μ, e⟩ := Unbiased.largest_real _ _ _ _ _ h1 b
  exact ⟨μ, (Finset.sup_congr rfl fun v _ => Plain.logits_at _ _ _ h0 b v).trans e⟩

variable {m c}
variable (f : Fine m c) (b : Fin 128)

include f

/-- The kernel's logit is the reference's. -/
theorem logit_eq (v : Fin 100000) : logits m c (ix2 b v) = Sampler.logit (Sampler.XA m c) (Sampler.XT m c t0_0) b v.val := by
  refine (Plain.logits_at _ _ _ f.bias b v).trans ?_
  unfold Sampler.logit
  rw [dif_pos v.isLt, Sampler.XA_eq, Sampler.XT_eq]
  refine Finset.sum_congr rfl fun d _ => ?_
  rw [transpose_ix2_apply, transpose_ix2_apply, mul_comm]

theorem logit_ne_top (v : ℕ) : Sampler.logit (Sampler.XA m c) (Sampler.XT m c t0_0) b v ≠ ⊤ := by
  by_cases hv : v < 100000
  · obtain ⟨μ, hμ⟩ := f.top b
    have h := Finset.le_sup (f := fun v : Fin 100000 => logits m c (ix2 b v)) (Finset.mem_univ ⟨v, hv⟩)
    rw [hμ, logit_eq f b ⟨v, hv⟩] at h
    exact ne_top_of_le_ne_top (EReal.coe_ne_top μ) h
  · unfold Sampler.logit
    rw [dif_neg hv]
    exact bot_ne_top

theorem good : Lane.Good (Sampler.logit (Sampler.XA m c) (Sampler.XT m c t0_0) b) 100000 (Sampler.ended m c b) :=
  Sampler.final_good _ b _ (logit_ne_top f b)

variable {r : PUnit × MemSt nD τ sig (Elt Ideal)} (h : Sampler.Ends m r)

include h

/-- The messages agree. -/
theorem message_eq : r.2.mem ((c : Thread nD τ).loc main_v4) = Plain.message (Plain.best (logits m c)) (distance m c) := by
  funext j
  obtain ⟨b, k, rfl⟩ : ∃ (b : Fin 128) (k : Fin 2), j = ix2 b k := ⟨j 0, j 1, by funext a; match a with | ⟨0, _⟩ => rfl | ⟨1, _⟩ => rfl⟩
  match k with
  | ⟨0, _⟩ =>
    obtain ⟨μ, hμ⟩ := f.top b
    obtain ⟨v, hb, hv, hw⟩ := Plain.best_at (logits m c) b μ hμ (EReal.coe_ne_bot μ)
    exact (Sampler.message_place c b h).trans ((Lane.place_eq (good f b) (logit_eq f b) μ hμ v hv hw).trans
      (Plain.message_place _ _ b v hb).symm)
  | ⟨1, _⟩ =>
    refine (Sampler.message_distance c b h).trans (((Plain.message_distance _ _ b).trans (Plain.distance_at _ _ _ f.dist b)).trans ?_).symm
    refine Finset.sum_congr rfl fun d _ => ?_
    rw [Sampler.XT_eq, Sampler.XD_eq, transpose_ix2_apply]

/-- The logarithms of the chosen probabilities agree. -/
theorem logp_eq : r.2.mem ((c : Thread nD τ).loc main_v5)
    = shapeCast Cert.ReferenceIdeal.S128 (Plain.taken (Plain.logProbs (logits m c)) (Plain.column (Plain.best (logits m c))))
        Cert.ReferenceIdeal.Gen.facts.shapeCasts_S128x1_S128 := by
  funext j
  obtain ⟨b, rfl⟩ : ∃ b : Fin 128, j = ix1 b := ⟨j 0, by funext a; match a with | ⟨0, _⟩ => rfl⟩
  obtain ⟨μ, hμ⟩ := f.top b
  obtain ⟨v, hb, hv, hw⟩ := Plain.best_at (logits m c) b μ hμ (EReal.coe_ne_bot μ)
  refine (Sampler.logp_at c b h).trans ((Lane.logp_eq (good f b) (logit_eq f b) μ hμ).trans ?_)
  refine (((shapeCast_apply _ _ _ (ix2 b (0 : Fin 1)) (by
    rw [Shape.rowMajor_val_two, Shape.rowMajor_val_one]; show b.val * 1 + 0 = b.val; omega)).trans (Plain.taken_at _ _ b v hb)).trans ?_).symm
  rw [Plain.logProbs_at, hμ, hv]

/-- The entropies agree. -/
theorem entropy_eq : r.2.mem ((c : Thread nD τ).loc main_v6) = Plain.entropy (Plain.logProbs (logits m c)) := by
  funext j
  obtain ⟨b, rfl⟩ : ∃ b : Fin 128, j = ix1 b := ⟨j 0, by funext a; match a with | ⟨0, _⟩ => rfl⟩
  obtain ⟨μ, hμ⟩ := f.top b
  refine (Sampler.entropy_at c b h).trans ((Lane.entropy_eq (good f b) (logit_eq f b) μ hμ).trans ((Plain.entropy_at _ b).trans ?_).symm)
  refine congrArg Neg.neg (Finset.sum_congr rfl fun v _ => ?_)
  rw [Plain.logProbs_at, hμ]

omit f h in
/-- The kernel ends with the reference's results of its own arguments, and leaves the arguments as launched. -/
theorem run [Cert.Pre_finite_unbiased.Facts] (ρ : Dev nD → PrngReg) (hp : Cert.Pre_KernelIdeal_finite_unbiased m) :
    θ_run (defs (F := Ideal)) (onTc (τ := τ) (main (F := Ideal))) ⟨m, fun _ => 0, ρ⟩ (fun r => ∀ c : Dev nD,
      r.2.mem ((c : Thread nD τ).loc main_v4) = Plain.message (Plain.best (logits m c)) (distance m c)
      ∧ r.2.mem ((c : Thread nD τ).loc main_v5) = shapeCast Cert.ReferenceIdeal.S128 (Plain.taken (Plain.logProbs (logits m c))
          (Plain.column (Plain.best (logits m c)))) Cert.ReferenceIdeal.Gen.facts.shapeCasts_S128x1_S128
      ∧ r.2.mem ((c : Thread nD τ).loc main_v6) = Plain.entropy (Plain.logProbs (logits m c))
      ∧ Sampler.Kept m r c) :=
  (θ_run defs _ _).mono (fun r h c => ⟨message_eq (fine m c hp) h, logp_eq (fine m c hp) h, entropy_eq (fine m c hp) h, Sampler.kept_of_ends m h c⟩)
    (Sampler.run_main m ρ)

end Cert.Proof.Equation

end
-- ==== Proof.lean ====
/-
  The certificate's claims, put together: the three frames, the idealization of the mask, and the equality of the
  kernel's three results with the reference's.
-/
module

public import proofs.«01_k».proof.Defs
public import proofs.«01_k».proof.Proof.Kernel.Frame
public import proofs.«01_k».proof.Proof.KernelIdeal.Frame
public import proofs.«01_k».proof.Proof.Reference.Frame
public import proofs.«01_k».proof.Proof.Equation

@[expose] public section

noncomputable section

namespace Cert.Proof

open Idealize.ShloMosaic

/-- Where the precondition holds, the kernel's three results are the reference's. -/
theorem algebraic [Cert.Pre_finite_unbiased.Facts] : Cert.algebraic_KernelIdeal_ReferenceIdeal_pre_finite_unbiased
    (hKernelIdeal := Cert.KernelIdeal.Gen.facts) (hReferenceIdeal := Cert.ReferenceIdeal.Gen.facts) := by
  intro m g m' g' hpre hagree
  refine ⟨fun c => Plain.message (Plain.best (Equation.logits m c)) (Equation.distance m c),
    fun c => shapeCast Cert.ReferenceIdeal.S128 (Plain.taken (Plain.logProbs (Equation.logits m c)) (Plain.column (Plain.best (Equation.logits m c))))
      Cert.ReferenceIdeal.Gen.facts.shapeCasts_S128x1_S128,
    fun c => Plain.entropy (Plain.logProbs (Equation.logits m c)), Equation.run g hpre,
    (θ_run Cert.ReferenceIdeal.defs _ _).mono (fun r h c => ?_) (Plain.run m' g')⟩
  obtain ⟨h0, h1, h2, h3, h4⟩ := hagree c
  have k := h c
  refine ⟨k.1.trans ?_, k.2.1.trans ?_, k.2.2.1.trans ?_, k.2.2.2⟩
  · unfold Plain.logitsOf
    rw [h0, h1, h2, h3, h4]
  · unfold Plain.logitsOf
    rw [h0, h1, h2]
  · unfold Plain.logitsOf
    rw [h0, h1, h2]

/-- The certificate's claim. -/
theorem claim : Cert.Claim :=
  ⟨Cert.Kernel.Gen.facts, Cert.KernelIdeal.Gen.facts, Cert.ReferenceIdeal.Gen.facts, Unbiased.facts,
    fun m g _ => Printed.frame m g,
    fun m g _ => Sampler.frame_any m g,
    fun m g _ => Sampler.frame_any m g,
    Plain.frame,
    fun m g _ => Plain.frame m g trivial,
    IdealRules.named_const.statement Cert.KernelIdeal.κ "mask" .f32 0xF149F2CA#32 ⊥ rfl,
    @algebraic Unbiased.facts⟩

end Cert.Proof

end
